-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocab [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_vocab [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_vocab [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel)
    ∧ quiescent_KernelIdeal (hKernelIdeal := hKernelIdeal)
    ∧ quiescent_KernelIdeal_pre_in_vocab (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal_pre_in_vocab (hKernelIdeal := hKernelIdeal) (hReferenceIdeal := hReferenceIdeal) (hPre_in_vocab := hPre_in_vocab)
-- ==== Pre_in_vocab.lean ====
abbrev S65536x200 : Shape := ⟨2, ![65536, 200]⟩
abbrev S65536x128 : Shape := ⟨2, ![65536, 128]⟩
abbrev S_ : Shape := ⟨0, ![]⟩

class Facts : Prop where
  bcast_S_S65536x200 : S_.BroadcastsInDim S65536x200 (![] : Fin 0 → Fin S65536x200.rank)
  reducesTo_S65536x200_S_d0_1 : S65536x200.ReducesTo [0, 1] S_
  h_S_ : 0 < S_.numel

variable [Facts]

def fn {F : FTy → Type} [FloatOps F] (main_arg0 : IVec S65536x200 32) (main_arg1 : FVec F S65536x128 .f32) : IVec S_ 1 :=
  let main_c : IVec S_ 32 := constantI S_ 32 0#32
  let main_v0 : IVec S65536x200 32 := broadcastInDim S65536x200 ![] bcast_S_S65536x200 main_c
  let main_v1 : IVec S65536x200 1 := cmpi .sge main_arg0 main_v0
  let main_c_0 : IVec S_ 32 := constantI S_ 32 100000#32
  let main_v2 : IVec S65536x200 32 := broadcastInDim S65536x200 ![] bcast_S_S65536x200 main_c_0
  let main_v3 : IVec S65536x200 1 := cmpi .slt main_arg0 main_v2
  let main_v4 : IVec S65536x200 1 := andi main_v1 main_v3
  let main_c_1 : IVec S_ 1 := constantI S_ 1 1#1
  let main_v5 : IVec S_ 1 := (fun x v => Host.reduce IntOp.andi x v reducesTo_S65536x200_S_d0_1 h_S_) main_v4 main_c_1
  main_v5
-- ==== Kernel.lean ====
abbrev S65536x200 : Shape := ⟨2, ![65536, 200]⟩
abbrev S65536x128 : Shape := ⟨2, ![65536, 128]⟩
abbrev S16x8x128 : Shape := ⟨3, ![16, 8, 128]⟩
abbrev S1024x200 : Shape := ⟨2, ![1024, 200]⟩
abbrev S1x8x128 : Shape := ⟨3, ![1, 8, 128]⟩
abbrev S8x128x200 : Shape := ⟨3, ![8, 128, 200]⟩
abbrev S200x8x128 : Shape := ⟨3, ![200, 8, 128]⟩
abbrev S56x8x128 : Shape := ⟨3, ![56, 8, 128]⟩
abbrev S256x8x128 : Shape := ⟨3, ![256, 8, 128]⟩
abbrev S2048x128 : Shape := ⟨2, ![2048, 128]⟩
abbrev S64x32x128 : Shape := ⟨3, ![64, 32, 128]⟩
abbrev S64x16x128 : Shape := ⟨3, ![64, 16, 128]⟩
abbrev S64x8x128 : Shape := ⟨3, ![64, 8, 128]⟩
abbrev S32x64x128 : Shape := ⟨3, ![32, 64, 128]⟩
abbrev S32x32x128 : Shape := ⟨3, ![32, 32, 128]⟩
abbrev S32x16x128 : Shape := ⟨3, ![32, 16, 128]⟩
abbrev S32x8x128 : Shape := ⟨3, ![32, 8, 128]⟩
abbrev S16x128x128 : Shape := ⟨3, ![16, 128, 128]⟩
abbrev S16x64x128 : Shape := ⟨3, ![16, 64, 128]⟩
abbrev S16x32x128 : Shape := ⟨3, ![16, 32, 128]⟩
abbrev S16x16x128 : Shape := ⟨3, ![16, 16, 128]⟩
abbrev S8x256x128 : Shape := ⟨3, ![8, 256, 128]⟩
abbrev S8x128x128 : Shape := ⟨3, ![8, 128, 128]⟩
abbrev S8x64x128 : Shape := ⟨3, ![8, 64, 128]⟩
abbrev S8x32x128 : Shape := ⟨3, ![8, 32, 128]⟩
abbrev S4x512x128 : Shape := ⟨3, ![4, 512, 128]⟩
abbrev S4x256x128 : Shape := ⟨3, ![4, 256, 128]⟩
abbrev S4x128x128 : Shape := ⟨3, ![4, 128, 128]⟩
abbrev S4x64x128 : Shape := ⟨3, ![4, 64, 128]⟩
abbrev S2x1024x128 : Shape := ⟨3, ![2, 1024, 128]⟩
abbrev S2x512x128 : Shape := ⟨3, ![2, 512, 128]⟩
abbrev S2x256x128 : Shape := ⟨3, ![2, 256, 128]⟩
abbrev S2x128x128 : Shape := ⟨3, ![2, 128, 128]⟩
abbrev S1x2048x128 : Shape := ⟨3, ![1, 2048, 128]⟩
abbrev S1x1024x128 : Shape := ⟨3, ![1, 1024, 128]⟩
abbrev S1x512x128 : Shape := ⟨3, ![1, 512, 128]⟩
abbrev S1x256x128 : Shape := ⟨3, ![1, 256, 128]⟩
abbrev S199x8x128 : Shape := ⟨3, ![199, 8, 128]⟩
abbrev S8x128 : Shape := ⟨2, ![8, 128]⟩
abbrev S16384 : Shape := ⟨1, ![16384]⟩

abbrev nBuf : Space → Nat
  | .hbm => 4
  | .vmem => 4
  | .smem => 0
  | _ => 0

abbrev bufTy : (tb : Table) → Fin (tcTables nBuf tb) → BufTy
  | .hbm, ⟨0, _⟩ => ⟨S65536x200, .i32⟩
  | .hbm, ⟨1, _⟩ => ⟨S65536x128, .f32⟩
  | .hbm, ⟨2, _⟩ => ⟨S16x8x128, .f32⟩
  | .hbm, ⟨3, _⟩ => ⟨S16384, .f32⟩
  | .local _ .vmem, ⟨0, _⟩ => ⟨S1024x200, .i32⟩
  | .local _ .vmem, ⟨1, _⟩ => ⟨S1024x200, .i32⟩
  | .local _ .vmem, ⟨2, _⟩ => ⟨S1x8x128, .f32⟩
  | .local _ .vmem, ⟨3, _⟩ => ⟨S1x8x128, .f32⟩
  | _, _ => ⟨S65536x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v552 : BitVec 1 := Scalar.cmpi .eq arg1 c0_i32
  let v553 : BitVec 32 := Scalar.extui v552
  let c0_i32_4 : BitVec 32 := 0#32
  let v554 : BitVec 1 := Scalar.cmpi .ne v553 c0_i32_4
  v554

def k0_cond2 (i : grid0.Coords) : BitVec 1 :=
  let arg1 : BitVec 32 := BitVec.ofNat 32 (i 1).val
  let c0_i32_5 : BitVec 32 := 0#32
  let v555 : BitVec 1 := Scalar.cmpi .sgt arg1 c0_i32_5
  let v556 : BitVec 32 := Scalar.extui v555
  let c0_i32_6 : BitVec 32 := 0#32
  let v557 : BitVec 1 := Scalar.cmpi .ne v556 c0_i32_6
  v557

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S65536x200 : Shape := ⟨2, ![65536, 200]⟩
abbrev S65536x128 : Shape := ⟨2, ![65536, 128]⟩
abbrev S65536x199 : Shape := ⟨2, ![65536, 199]⟩
abbrev S_ : Shape := ⟨0, ![]⟩
abbrev S65536 : Shape := ⟨1, ![65536]⟩
abbrev S4x16384 : Shape := ⟨2, ![4, 16384]⟩
abbrev S16384 : Shape := ⟨1, ![16384]⟩

abbrev nBuf : Space → Nat
  | .hbm => 21
  | .vmem => 0
  | .smem => 0
  | _ => 0

abbrev bufTy : (tb : Table) → Fin (tcTables nBuf tb) → BufTy
  | .hbm, ⟨0, _⟩ => ⟨S65536x200, .i32⟩
  | .hbm, ⟨1, _⟩ => ⟨S65536x128, .f32⟩
  | .hbm, ⟨2, _⟩ => ⟨S65536x200, .i32⟩
  | .hbm, ⟨3, _⟩ => ⟨S65536x199, .i32⟩
  | .hbm, ⟨4, _⟩ => ⟨S65536x199, .i32⟩
  | .hbm, ⟨5, _⟩ => ⟨S65536x199, .i1⟩
  | .hbm, ⟨6, _⟩ => ⟨S65536x199, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .f32⟩
  | .hbm, ⟨12, _⟩ => ⟨S_, .f32⟩
  | .hbm, ⟨13, _⟩ => ⟨S65536, .f32⟩
  | .hbm, ⟨14, _⟩ => ⟨S65536, .f32⟩
  | .hbm, ⟨15, _⟩ => ⟨S4x16384, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | _, _ => ⟨S65536x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Network.lean ====
/- The bitonic network of the kernel on one column of 256 entries, and that it sorts: each half-cleaning step is a stage of
   the library's network (Lib/SortNet), the steps together are its ascending sort, and a sorted rearrangement is unique. -/
module

public import Idealize.ShloMosaic.Lib.SortNet.Sorts
public import Mathlib.Order.Interval.Finset.Fin
public import Mathlib.Data.EReal.Basic

@[expose] public section

namespace Cert.Sort

open Idealize.ShloMosaic.SortNet

/-- One half-cleaning step at distance `j` of a column: positions `p` and `p + j` of each block of `2 * j` are put in
    increasing order where `D p`, in decreasing order elsewhere. -/
noncomputable def hcf (D : ℕ → Bool) (j : ℕ) (X : ℕ → EReal) (p : ℕ) : EReal :=
  if p % (2 * j) < j then (if D p then min (X p) (X (p + j)) else max (X p) (X (p + j)))
  else (if D p then max (X (p - j)) (X p) else min (X (p - j)) (X p))

/-- The direction in phase `k`: increasing on the even blocks of `k` positions. -/
def up (k p : ℕ) : Bool := decide ((p / k) % 2 = 0)

/-- The steps of the sort in order: phase `2 ^ (l + 1)` with its distances `2 ^ l, …, 2, 1`. -/
def steps : List (ℕ × ℕ) := (List.range 8).flatMap fun l => (List.range (l + 1)).reverse.map fun s => (l, s)

/-- A column after a list of steps. -/
noncomputable def runSteps (L : List (ℕ × ℕ)) (X : ℕ → EReal) : ℕ → EReal :=
  L.foldl (fun X q => hcf (up (2 ^ (q.1 + 1))) (2 ^ q.2) X) X

/-- The stage of the library's network that a step is. -/
def netStage (q : ℕ × ℕ) : Network (2 ^ 8) := stage 8 q.2 fun i => (decide (i.val &&& 2 ^ (q.1 + 1) = 0)) == false

/-- Bit `s` of a small number is clear just when its `s`-th quotient is even. -/
theorem and_pow_eq_zero : ∀ s < 9, ∀ i < 256, (i &&& 2 ^ s = 0 ↔ (i / 2 ^ s) % 2 = 0) := by
  decide +kernel

/-- The first half of each run is where the distance's bit is clear. -/
theorem bit_clear : ∀ s < 8, ∀ i < 256, (i % (2 * 2 ^ s) < 2 ^ s ↔ i &&& 2 ^ s = 0) := by
  decide +kernel

/-- Flipping a clear bit adds the distance. -/
theorem xor_of_clear : ∀ s < 8, ∀ i < 256, i &&& 2 ^ s = 0 → i ^^^ 2 ^ s = i + 2 ^ s := by
  decide +kernel

/-- Flipping a set bit takes the distance off. -/
theorem sub_of_set : ∀ s < 8, ∀ i < 256, ¬ i &&& 2 ^ s = 0 → i ^^^ 2 ^ s = i - 2 ^ s := by
  decide +kernel

/-- Both positions of an exchange lie in the same block of a later or equal phase. -/
theorem up_partner : ∀ l < 8, ∀ s ≤ l, ∀ i < 256, up (2 ^ (l + 1)) (i ^^^ 2 ^ s) = up (2 ^ (l + 1)) i := by
  decide +kernel

/-- A step of the column is a stage of the network. -/
theorem hcf_eq_stage (q : ℕ × ℕ) (hl : q.1 < 8) (hs : q.2 ≤ q.1) (X : ℕ → EReal) (v : Fin (2 ^ 8) → EReal)
    (h : ∀ i : Fin (2 ^ 8), X i = v i) (i : Fin (2 ^ 8)) :
    hcf (up (2 ^ (q.1 + 1))) (2 ^ q.2) X i = Network.apply (netStage q) v i := by
  obtain ⟨l, s⟩ := q
  dsimp only at hl hs ⊢
  have hs8 : s < 8 := by omega
  have hw : ∀ k : Fin (2 ^ 8), ((decide (k.val &&& 2 ^ (l + 1) = 0)) == false) = !up (2 ^ (l + 1)) k.val := by
    intro k
    have := and_pow_eq_zero (l + 1) (by omega) k.val k.isLt
    unfold up
    by_cases hk : k.val &&& 2 ^ (l + 1) = 0
    · rw [decide_eq_true hk, decide_eq_true (this.mp hk)]; rfl
    · rw [decide_eq_false hk, decide_eq_false (fun h' => hk (this.mpr h'))]; rfl
  unfold hcf netStage
  by_cases hc : i.val &&& 2 ^ s = 0
  · rw [if_pos ((bit_clear s hs8 i.val i.isLt).mpr hc), (apply_stage hs8 _ v i hc).1]
    dsimp only
    rw [hw i]
    have hp : X (i.val + 2 ^ s) = v (partner 8 s i) := by
      rw [← h, partner_val hs8, xor_of_clear s hs8 i.val i.isLt hc]
    rw [hp, h i]
    cases up (2 ^ (l + 1)) i.val <;> rfl
  · rw [if_neg (fun h' => hc ((bit_clear s hs8 i.val i.isLt).mp h'))]
    have hj := partner_and_of_set hs8 i hc
    have e := (apply_stage hs8 (fun k : Fin (2 ^ 8) => (decide (k.val &&& 2 ^ (l + 1) = 0)) == false) v _ hj).2
    rw [partner_partner hs8] at e
    rw [e, hw, partner_val hs8, up_partner l hl s hs i.val i.isLt]
    have hp : X (i.val - 2 ^ s) = v (partner 8 s i) := by
      rw [← h, partner_val hs8, sub_of_set s hs8 i.val i.isLt hc]
    rw [hp, h i]
    cases up (2 ^ (l + 1)) i.val <;> rfl

/-- A list of steps is the network of their stages. -/
theorem runSteps_eq (L : List (ℕ × ℕ)) (hL : ∀ q ∈ L, q.1 < 8 ∧ q.2 ≤ q.1) (X : ℕ → EReal) (v : Fin (2 ^ 8) → EReal)
    (h : ∀ i : Fin (2 ^ 8), X i = v i) (i : Fin (2 ^ 8)) :
    runSteps L X i = Network.apply (L.flatMap netStage) v i := by
  induction L generalizing X v with
  | nil => exact h i
  | cons q L ih =>
    rw [List.flatMap_cons, Network.apply_append]
    have hq := hL q List.mem_cons_self
    exact ih (fun q' h' => hL q' (List.mem_cons_of_mem _ h')) _ _ (fun k => hcf_eq_stage q hq.1 hq.2 X v h k)

/-- Each step's distance lies within its phase. -/
theorem steps_ok : ∀ q ∈ steps, q.1 < 8 ∧ q.2 ≤ q.1 := by
  decide

/-- The steps, comparator by comparator, are the bitonic sorting network of 256 entries. -/
theorem steps_net : steps.flatMap netStage = sortNet 8 false := by
  unfold steps sortNet
  rw [List.flatMap_assoc]
  congr 1
  funext l
  rw [List.flatMap_map]
  rfl

/-- Of two increasing arrangements of the same entries neither exceeds the other anywhere: else more positions of the one
    than of the other would hold an entry below the larger. -/
theorem arrangement_le {n : ℕ} (f : Fin n → EReal) (σ : Equiv.Perm (Fin n)) (hf : Monotone f) (hg : Monotone (f ∘ σ))
    (i : Fin n) : f (σ i) ≤ f i := by
  by_contra hlt
  rw [not_le] at hlt
  have hsub : Finset.Iic i ⊆ Finset.univ.filter fun k => f k < f (σ i) := fun k hk =>
    Finset.mem_filter.mpr ⟨Finset.mem_univ k, lt_of_le_of_lt (hf (Finset.mem_Iic.mp hk)) hlt⟩
  have hsup : (Finset.univ.filter fun k => f (σ k) < f (σ i)) ⊆ Finset.Iio i := fun k hk => by
    rw [Finset.mem_Iio]
    by_contra hk'
    exact absurd (Finset.mem_filter.mp hk).2 (not_lt.mpr (hg (not_lt.mp hk')))
  have hcard : (Finset.univ.filter fun k => f (σ k) < f (σ i)).card = (Finset.univ.filter fun k => f k < f (σ i)).card :=
    Finset.card_equiv σ fun k => by simp only [Finset.mem_filter, Finset.mem_univ, true_and]
  have h1 := Finset.card_le_card hsub
  have h2 := Finset.card_le_card hsup
  rw [Fin.card_Iic] at h1
  rw [Fin.card_Iio] at h2
  omega

/-- Two increasing arrangements of the same entries are equal. -/
theorem arrangement_unique {n : ℕ} (v : Fin n → EReal) (σ τ : Equiv.Perm (Fin n)) (hσ : Monotone (v ∘ σ))
    (hτ : Monotone (v ∘ τ)) : v ∘ σ = v ∘ τ := by
  have key : ∀ (σ τ : Equiv.Perm (Fin n)), Monotone (v ∘ σ) → Monotone (v ∘ τ) → ∀ i, v (τ i) ≤ v (σ i) := by
    intro σ τ hσ hτ i
    have e : (v ∘ σ) ∘ (τ.trans σ.symm) = v ∘ τ := funext fun k => congrArg v (σ.apply_symm_apply (τ k))
    have h := arrangement_le (v ∘ σ) (τ.trans σ.symm) hσ (by rw [e]; exact hτ) i
    have e' := congrFun e i
    simp only [Function.comp_apply] at e' h
    rw [e'] at h
    exact h
  exact funext fun i => le_antisymm (key τ σ hτ hσ i) (key σ τ hσ hτ i)

/-- The network leaves a column as its sorted rearrangement: whichever increasing column has the same entries. -/
theorem runSteps_sorted (X : ℕ → EReal) (w : Fin 256 → EReal) (hw : Monotone w) (τ : Fin 256 → Fin 256)
    (hτ : Function.Bijective τ) (h : ∀ i : Fin 256, w i = X (τ i).val) (i : Fin 256) : runSteps steps X i.val = w i := by
  have e := runSteps_eq steps steps_ok X (fun i => X i.val) (fun _ => rfl) i
  rw [steps_net] at e
  refine e.trans ?_
  obtain ⟨σ, hσ⟩ := Network.exists_perm (sortNet 8 false) (fun i => X i.val)
  have hm := sortNet_apply_monotone 8 (fun i : Fin (2 ^ 8) => X i.val)
  rw [hσ] at hm ⊢
  have hwe : w = (fun i : Fin (2 ^ 8) => X i.val) ∘ (Equiv.ofBijective τ hτ) := funext h
  rw [hwe] at hw ⊢
  exact congrFun (arrangement_unique _ σ _ hm hw) i

end Cert.Sort
-- ==== Proof.Layout.lean ====
/- The kernel's sorting steps as vector operations of any size, and what each does to the columns its operand holds. A vector
   of shape `A × 8B × 128` holds, for each sublane `s` and lane `l`, pieces of one column: row `a` holds the `B` entries from
   position `off a` on, entry `b` at sublane row `8 b + s`. Slices, minima and maxima, concatenations and reshapes keep this form. -/
module

public import proofs.«01_k».proof.Proof.Network
public import Idealize.ShloMosaic.Lib.Pipeline.Value
public import Idealize.ShloMosaic.Lib.Pointwise.Index
public import Idealize.ShloMosaic.PureOps.Ideal

@[expose] public section

noncomputable section

namespace Cert.Sort

open Idealize.ShloMosaic

/-- A vector shape of `A` rows of `B` sublane rows. -/
abbrev V (A B : ℕ) : Shape := ⟨3, ![A, B, 128]⟩

/-- The shape of a whole block of columns: 256 entries of 8 sublane rows each. -/
abbrev M : Shape := ⟨2, ![2048, 128]⟩

/-- A vector of `A` rows of `B` sublane rows. -/
abbrev Arr (A B : ℕ) : Type := FVec Ideal (V A B) .f32

/-- At sublane `s` and lane `l`, row `a` of `x` holds the entries of the column `X` from position `off a` on. -/
def Rep (s l : ℕ) {A B : ℕ} (x : Arr A B) (off : ℕ → ℕ) (X : ℕ → EReal) : Prop :=
  ∀ (a : Fin A) (b : Fin B) (c : Fin 128), b.val % 8 = s → c.val = l → x (ix3 a b c) = X (off a.val + b.val / 8)

/-- At sublane `s` and lane `l`, `x` holds the column `X`. -/
def RepM (s l : ℕ) (x : FVec Ideal M .f32) (X : ℕ → EReal) : Prop :=
  ∀ (b : Fin 2048) (c : Fin 128), b.val % 8 = s → c.val = l → x (ix2 b c) = X (b.val / 8)

/-- Sublane rows `o` to `o + h` lie in the vector. -/
theorem slices_V (A B o h : ℕ) (hh : o + h ≤ B) : (V A B).Slices ![0, o, 0] (V A h) := by
  refine ⟨rfl, fun a => ?_⟩
  match a with
  | ⟨0, _⟩ => exact (Nat.zero_add A).le
  | ⟨1, _⟩ => exact hh
  | ⟨2, _⟩ => exact le_refl 128

/-- Two halves make a whole. -/
theorem cat2_V (A h : ℕ) : Shape.Concatenates [V A h, V A h] (V A (2 * h)) 1 := by
  refine ⟨le_refl _, fun s hs => ?_, ?_⟩
  · have : s = V A h := by simpa using hs
    subst this
    refine ⟨rfl, fun b hb => ?_⟩
    match b with
    | ⟨0, _⟩ => rfl
    | ⟨1, _⟩ => exact absurd rfl hb
    | ⟨2, _⟩ => rfl
  · show h + (h + 0) = 2 * h
    omega

/-- Four quarters make a whole. -/
theorem cat4_V (A h : ℕ) : Shape.Concatenates [V A h, V A h, V A h, V A h] (V A (4 * h)) 1 := by
  refine ⟨show 2 ≤ 4 by omega, fun s hs => ?_, ?_⟩
  · have : s = V A h := by simpa using hs
    subst this
    refine ⟨rfl, fun b hb => ?_⟩
    match b with
    | ⟨0, _⟩ => rfl
    | ⟨1, _⟩ => exact absurd rfl hb
    | ⟨2, _⟩ => rfl
  · show h + (h + (h + (h + 0))) = 4 * h
    omega

/-- Rows `o` to `o + h` of each block. -/
def cut {A B : ℕ} (o h : ℕ) (x : Arr A B) (hh : o + h ≤ B) : Arr A h :=
  extractStridedSlice (V A h) ![0, o, 0] x (slices_V A B o h hh)

/-- Two halves put together. -/
def cat2 {A h : ℕ} (x y : Arr A h) : Arr A (2 * h) :=
  concatenate (V A (2 * h)) 1 [⟨V A h, x⟩, ⟨V A h, y⟩] (cat2_V A h)

/-- Four quarters put together. -/
def cat4 {A h : ℕ} (x y z w : Arr A h) : Arr A (4 * h) :=
  concatenate (V A (4 * h)) 1 [⟨V A h, x⟩, ⟨V A h, y⟩, ⟨V A h, z⟩, ⟨V A h, w⟩] (cat4_V A h)

/-- A cut read at an index. -/
theorem cut_apply {A B : ℕ} (o h : ℕ) (x : Arr A B) (hh : o + h ≤ B) (a : Fin A) (b : Fin h) (c : Fin 128) :
    cut o h x hh (ix3 a b c) = x (ix3 a ⟨o + b.val, by omega⟩ c) := by
  refine extractStridedSlice_apply _ x _ _ _ fun k => ?_
  match k with
  | ⟨0, _⟩ => exact (Nat.zero_add _).symm
  | ⟨1, _⟩ => rfl
  | ⟨2, _⟩ => exact (Nat.zero_add _).symm

variable {s l : ℕ}

/-- A slice holds the columns from a later position on. -/
theorem Rep.cut {A B : ℕ} {x : Arr A B} {off : ℕ → ℕ} {X : ℕ → EReal} (hx : Rep s l x off X) (o h : ℕ)
    (hh : 8 * o + h ≤ B) : Rep s l (cut (8 * o) h x hh) (fun a => off a + o) X := by
  intro a b c hb hc
  rw [cut_apply, hx _ _ _ (by show (8 * o + b.val) % 8 = s; omega) hc]
  congr 1
  show off a.val + (8 * o + b.val) / 8 = off a.val + o + b.val / 8
  omega

/-- Two halves that hold consecutive pieces of the column hold, together, the longer piece. -/
theorem cat2_rep {A h : ℕ} {x y : Arr A (8 * h)} {off : ℕ → ℕ} {X : ℕ → EReal} (hx : Rep s l x off X)
    (hy : Rep s l y (fun a => off a + h) X) : Rep s l (cat2 x y) off X := by
  intro a b c hb hc
  have hb2 := b.isLt
  by_cases h0 : b.val < 8 * h
  · have e : cat2 x y (ix3 a b c) = x (ix3 a ⟨b.val, h0⟩ c) :=
      concatenate_apply_piece (t := V A (2 * (8 * h))) 1 _ _ _ 0 (by show 0 < 2; omega) _ x rfl rfl 0 rfl _
        (fun k hk => match k, hk with | ⟨0, _⟩, _ => rfl | ⟨1, _⟩, hk => absurd rfl hk | ⟨2, _⟩, _ => rfl) (Nat.zero_add _)
    rw [e]
    exact hx _ _ _ hb hc
  · have e : cat2 x y (ix3 a b c) = y (ix3 a ⟨b.val - 8 * h, by omega⟩ c) :=
      concatenate_apply_piece (t := V A (2 * (8 * h))) 1 _ _ _ 1 (by show 1 < 2; omega) _ y rfl rfl (8 * h)
        (by show 8 * h + 0 = 8 * h; omega) _
        (fun k hk => match k, hk with | ⟨0, _⟩, _ => rfl | ⟨1, _⟩, hk => absurd rfl hk | ⟨2, _⟩, _ => rfl)
        (by show 8 * h + (b.val - 8 * h) = b.val; omega)
    rw [e, hy _ _ _ (by show (b.val - 8 * h) % 8 = s; omega) hc]
    congr 1
    show off a.val + h + (b.val - 8 * h) / 8 = off a.val + b.val / 8
    omega

/-- Four quarters that hold consecutive pieces of the column hold, together, the longer piece. -/
theorem cat4_rep {A h : ℕ} {x y z w : Arr A (8 * h)} {off : ℕ → ℕ} {X : ℕ → EReal} (hx : Rep s l x off X)
    (hy : Rep s l y (fun a => off a + h) X) (hz : Rep s l z (fun a => off a + 2 * h) X)
    (hw : Rep s l w (fun a => off a + 3 * h) X) : Rep s l (cat4 x y z w) off X := by
  intro a b c hb hc
  have hb2 := b.isLt
  by_cases h0 : b.val < 8 * h
  · have e : cat4 x y z w (ix3 a b c) = x (ix3 a ⟨b.val, h0⟩ c) :=
      concatenate_apply_piece (t := V A (4 * (8 * h))) 1 _ _ _ 0 (by show 0 < 4; omega) _ x rfl rfl 0 rfl _
        (fun k hk => match k, hk with | ⟨0, _⟩, _ => rfl | ⟨1, _⟩, hk => absurd rfl hk | ⟨2, _⟩, _ => rfl) (Nat.zero_add _)
    rw [e]
    exact hx _ _ _ hb hc
  by_cases h1 : b.val < 2 * (8 * h)
  · have e : cat4 x y z w (ix3 a b c) = y (ix3 a ⟨b.val - 8 * h, by omega⟩ c) :=
      concatenate_apply_piece (t := V A (4 * (8 * h))) 1 _ _ _ 1 (by show 1 < 4; omega) _ y rfl rfl (8 * h)
        (by show 8 * h + 0 = 8 * h; omega) _
        (fun k hk => match k, hk with | ⟨0, _⟩, _ => rfl | ⟨1, _⟩, hk => absurd rfl hk | ⟨2, _⟩, _ => rfl)
        (by show 8 * h + (b.val - 8 * h) = b.val; omega)
    rw [e, hy _ _ _ (by show (b.val - 8 * h) % 8 = s; omega) hc]
    congr 1
    show off a.val + h + (b.val - 8 * h) / 8 = off a.val + b.val / 8
    omega
  by_cases h2 : b.val < 3 * (8 * h)
  · have e : cat4 x y z w (ix3 a b c) = z (ix3 a ⟨b.val - 2 * (8 * h), by omega⟩ c) :=
      concatenate_apply_piece (t := V A (4 * (8 * h))) 1 _ _ _ 2 (by show 2 < 4; omega) _ z rfl rfl (2 * (8 * h))
        (by show 8 * h + (8 * h + 0) = 2 * (8 * h); omega) _
        (fun k hk => match k, hk with | ⟨0, _⟩, _ => rfl | ⟨1, _⟩, hk => absurd rfl hk | ⟨2, _⟩, _ => rfl)
        (by show 2 * (8 * h) + (b.val - 2 * (8 * h)) = b.val; omega)
    rw [e, hz _ _ _ (by show (b.val - 2 * (8 * h)) % 8 = s; omega) hc]
    congr 1
    show off a.val + 2 * h + (b.val - 2 * (8 * h)) / 8 = off a.val + b.val / 8
    omega
  · have e : cat4 x y z w (ix3 a b c) = w (ix3 a ⟨b.val - 3 * (8 * h), by omega⟩ c) :=
      concatenate_apply_piece (t := V A (4 * (8 * h))) 1 _ _ _ 3 (by show 3 < 4; omega) _ w rfl rfl (3 * (8 * h))
        (by show 8 * h + (8 * h + (8 * h + 0)) = 3 * (8 * h); omega) _
        (fun k hk => match k, hk with | ⟨0, _⟩, _ => rfl | ⟨1, _⟩, hk => absurd rfl hk | ⟨2, _⟩, _ => rfl)
        (by show 3 * (8 * h) + (b.val - 3 * (8 * h)) = b.val; omega)
    rw [e, hw _ _ _ (by show (b.val - 3 * (8 * h)) % 8 = s; omega) hc]
    congr 1
    show off a.val + 3 * h + (b.val - 3 * (8 * h)) / 8 = off a.val + b.val / 8
    omega

/-- The lesser of two vectors where the exchange is to be increasing, the greater where decreasing. -/
def lower (asc : Bool) {A B : ℕ} (x y : Arr A B) : Arr A B :=
  match asc with | true => minimumf x y | false => maximumf x y

/-- The greater of two vectors where the exchange is to be increasing, the lesser where decreasing. -/
def higher (asc : Bool) {A B : ℕ} (x y : Arr A B) : Arr A B :=
  match asc with | true => maximumf x y | false => minimumf x y

/-- What the exchange puts at the earlier positions. -/
theorem lower_rep {A h : ℕ} {x y : Arr A (8 * h)} {off : ℕ → ℕ} {X : ℕ → EReal} (asc : Bool) (D : ℕ → Bool)
    (hx : Rep s l x off X) (hy : Rep s l y (fun a => off a + h) X) (hoff : ∀ a < A, off a % (2 * h) = 0)
    (hD : ∀ a < A, ∀ b < h, D (off a + b) = asc) : Rep s l (lower asc x y) off (hcf D h X) := by
  intro a b c hb hc
  have hbh : b.val / 8 < h := by have := b.isLt; omega
  have hpos : (off a.val + b.val / 8) % (2 * h) < h := by
    rw [Nat.add_mod, hoff _ a.isLt, Nat.zero_add, Nat.mod_mod, Nat.mod_eq_of_lt (by omega)]
    exact hbh
  have e1 := hx a b c hb hc
  have e2 := hy a b c hb hc
  unfold hcf
  rw [if_pos hpos, hD _ a.isLt _ hbh, Nat.add_right_comm (off a.val) (b.val / 8) h, ← e1, ← e2]
  cases asc <;> rfl

/-- What the exchange puts at the later positions. -/
theorem higher_rep {A h : ℕ} {x y : Arr A (8 * h)} {off : ℕ → ℕ} {X : ℕ → EReal} (asc : Bool) (D : ℕ → Bool)
    (hx : Rep s l x off X) (hy : Rep s l y (fun a => off a + h) X) (hoff : ∀ a < A, off a % (2 * h) = 0)
    (hD : ∀ a < A, ∀ b < h, D (off a + (h + b)) = asc) :
    Rep s l (higher asc x y) (fun a => off a + h) (hcf D h X) := by
  intro a b c hb hc
  have hbh : b.val / 8 < h := by have := b.isLt; omega
  have hpos : ¬ (off a.val + h + b.val / 8) % (2 * h) < h := by
    rw [Nat.add_assoc, Nat.add_mod, hoff _ a.isLt, Nat.zero_add, Nat.mod_mod, Nat.mod_eq_of_lt (by omega)]
    omega
  have e1 := hx a b c hb hc
  have e2 := hy a b c hb hc
  unfold hcf
  dsimp only at e2 ⊢
  rw [if_neg hpos, Nat.add_assoc, hD _ a.isLt _ hbh, ← Nat.add_assoc,
    show off a.val + h + b.val / 8 - h = off a.val + b.val / 8 by omega, ← e1, ← e2]
  cases asc <;> rfl

/-- One half-cleaning step of each row. -/
def hc1 (asc : Bool) {A : ℕ} (h : ℕ) (x : Arr A (2 * (8 * h))) : Arr A (2 * (8 * h)) :=
  cat2 (lower asc (cut (8 * 0) (8 * h) x (by omega)) (cut (8 * h) (8 * h) x (by omega)))
    (higher asc (cut (8 * 0) (8 * h) x (by omega)) (cut (8 * h) (8 * h) x (by omega)))

/-- One half-cleaning step of the vector is one of the column. -/
theorem hc1_rep {A h : ℕ} {x : Arr A (2 * (8 * h))} {off : ℕ → ℕ} {X : ℕ → EReal} (asc : Bool) (D : ℕ → Bool)
    (hx : Rep s l x off X) (hoff : ∀ a < A, off a % (2 * h) = 0)
    (hD : ∀ a < A, ∀ b < 2 * h, D (off a + b) = asc) : Rep s l (hc1 asc h x) off (hcf D h X) := by
  have h0 : Rep s l (cut (8 * 0) (8 * h) x (by omega)) off X := hx.cut 0 (8 * h) (by omega)
  have h1 := hx.cut h (8 * h) (by omega)
  exact cat2_rep (lower_rep asc D h0 h1 hoff fun a ha b hb => hD a ha b (by omega))
    (higher_rep asc D h0 h1 hoff fun a ha b hb => hD a ha _ (by omega))

/-- Two half-cleaning steps of each row, at distances `2 * h` and `h`. -/
def hc2 (asc : Bool) {A : ℕ} (h : ℕ) (x : Arr A (4 * (8 * h))) : Arr A (4 * (8 * h)) :=
  let p := lower asc (cut (8 * 0) (8 * (2 * h)) x (by omega)) (cut (8 * (2 * h)) (8 * (2 * h)) x (by omega))
  let q := higher asc (cut (8 * 0) (8 * (2 * h)) x (by omega)) (cut (8 * (2 * h)) (8 * (2 * h)) x (by omega))
  cat4 (lower asc (cut (8 * 0) (8 * h) p (by omega)) (cut (8 * h) (8 * h) p (by omega)))
    (higher asc (cut (8 * 0) (8 * h) p (by omega)) (cut (8 * h) (8 * h) p (by omega)))
    (lower asc (cut (8 * 0) (8 * h) q (by omega)) (cut (8 * h) (8 * h) q (by omega)))
    (higher asc (cut (8 * 0) (8 * h) q (by omega)) (cut (8 * h) (8 * h) q (by omega)))

/-- Two half-cleaning steps of the vector are two of the column. -/
theorem hc2_rep {A h : ℕ} {x : Arr A (4 * (8 * h))} {off : ℕ → ℕ} {X : ℕ → EReal} (asc : Bool) (D : ℕ → Bool)
    (hx : Rep s l x off X) (hoff : ∀ a < A, off a % (4 * h) = 0)
    (hD : ∀ a < A, ∀ b < 4 * h, D (off a + b) = asc) : Rep s l (hc2 asc h x) off (hcf D h (hcf D (2 * h) X)) := by
  have hoff4 : ∀ a < A, off a % (2 * (2 * h)) = 0 := fun a ha => by
    have := hoff a ha
    rwa [show 4 * h = 2 * (2 * h) by omega] at this
  have hoff2 : ∀ a < A, off a % (2 * h) = 0 := fun a ha =>
    Nat.mod_eq_zero_of_dvd ((Dvd.intro_left 2 rfl).trans (Nat.dvd_of_mod_eq_zero (hoff4 a ha)))
  have hoff2' : ∀ a < A, (off a + 2 * h) % (2 * h) = 0 := fun a ha => by rw [Nat.add_mod_right, hoff2 a ha]
  have h0 : Rep s l (cut (8 * 0) (8 * (2 * h)) x (by omega)) off X := hx.cut 0 (8 * (2 * h)) (by omega)
  have h1 := hx.cut (2 * h) (8 * (2 * h)) (by omega)
  have hp := lower_rep asc D h0 h1 hoff4 fun a ha b hb => hD a ha b (by omega)
  have hq := higher_rep asc D h0 h1 hoff4 fun a ha b hb => hD a ha _ (by omega)
  have hp0 := hp.cut 0 (8 * h) (by omega)
  have hp1 := hp.cut h (8 * h) (by omega)
  have hq0 := hq.cut 0 (8 * h) (by omega)
  have hq1 := hq.cut h (8 * h) (by omega)
  refine cat4_rep (lower_rep asc D hp0 hp1 hoff2 fun a ha b hb => hD a ha b (by omega))
    (higher_rep asc D hp0 hp1 hoff2 fun a ha b hb => hD a ha _ (by omega))
    (lower_rep asc D hq0 hq1 hoff2' fun a ha b hb => ?_) ?_
  · show D (off a + 2 * h + b) = asc
    rw [Nat.add_assoc]; exact hD a ha _ (by omega)
  · have := higher_rep asc D hq0 hq1 hoff2' fun a ha b hb => by
      show D (off a + 2 * h + (h + b)) = asc
      rw [Nat.add_assoc]; exact hD a ha _ (by omega)
    have e : (fun a => off a + 3 * h) = fun a => off a + 2 * h + 0 + h := funext fun a => by omega
    rw [e]
    exact this

/-! ## Reshapes -/

/-- Each row cut into `m` rows. -/
theorem split_rep {A B A' B' : ℕ} (m b : ℕ) (hB : B = 8 * (m * b)) (hA' : A' = A * m) (hB' : B' = 8 * b) {x : Arr A B}
    {off : ℕ → ℕ} {X : ℕ → EReal} (hx : Rep s l x off X)
    (hc : (V A B).ShapeCasts (V A' B')) :
    Rep s l (shapeCast (V A' B') x hc) (fun a => off (a / m) + (a % m) * b) X := by
  subst hB hA' hB'
  intro a r c hr hcl
  have ha := a.isLt
  have hm : 0 < m := Nat.pos_of_ne_zero fun h => by subst h; omega
  have hq : a.val / m < A := Nat.div_lt_of_lt_mul (Nat.lt_of_lt_of_eq ha (Nat.mul_comm A m))
  have hmod := Nat.mod_lt a.val hm
  have hda := Nat.div_add_mod a.val m
  have hrow : a.val % m * b + r.val / 8 < m * b := by
    have h1 : r.val / 8 < b := by have := r.isLt; omega
    have h2 : (a.val % m + 1) * b ≤ m * b := Nat.mul_le_mul_right b hmod
    rw [Nat.add_mul] at h2
    omega
  have e := shapeCast_apply x hc (ix3 a r c)
    (ix3 ⟨a.val / m, hq⟩ ⟨8 * (a.val % m * b) + r.val, by omega⟩ c) (by
      rw [Shape.rowMajor_val_three, Shape.rowMajor_val_three]
      show (a.val / m * (8 * (m * b)) + (8 * (a.val % m * b) + r.val)) * 128 + c.val
        = (a.val * (8 * b) + r.val) * 128 + c.val
      conv_rhs => rw [← hda]
      ring)
  rw [e, hx _ _ _ (by show (8 * (a.val % m * b) + r.val) % 8 = s; omega) hcl]
  congr 1
  show off (a.val / m) + (8 * (a.val % m * b) + r.val) / 8 = off (a.val / m) + a.val % m * b + r.val / 8
  omega

/-- Each `m` rows put in one. -/
theorem merge_rep {A B A' B' : ℕ} (m b : ℕ) (hB : B = 8 * (m * b)) (hA' : A' = A * m) (hB' : B' = 8 * b) {x : Arr A' B'}
    {off : ℕ → ℕ} {X : ℕ → EReal}
    (hx : Rep s l x (fun a => off (a / m) + (a % m) * b) X)
    (hc : (V A' B').ShapeCasts (V A B)) :
    Rep s l (shapeCast (V A B) x hc) off X := by
  subst hB hA' hB'
  intro a r c hr hcl
  have hr2 := r.isLt
  have hb : 0 < 8 * b := Nat.pos_of_ne_zero fun h => by
    have hb0 : b = 0 := by omega
    have h0 : 8 * (m * b) = 0 := by rw [hb0]; rfl
    omega
  have hqm : r.val / (8 * b) < m := Nat.div_lt_of_lt_mul (by
    rw [show 8 * b * m = 8 * (m * b) by ring]; exact hr2)
  have hmod := Nat.mod_lt r.val hb
  have hdr := Nat.div_add_mod r.val (8 * b)
  have hm : 0 < m := Nat.lt_of_le_of_lt (Nat.zero_le _) hqm
  have ha : a.val * m + r.val / (8 * b) < A * m := by
    have h2 : (a.val + 1) * m ≤ A * m := Nat.mul_le_mul_right m a.isLt
    rw [Nat.add_mul] at h2
    omega
  have e := shapeCast_apply x hc (ix3 a r c)
    (ix3 ⟨a.val * m + r.val / (8 * b), ha⟩ ⟨r.val % (8 * b), hmod⟩ c) (by
      rw [Shape.rowMajor_val_three, Shape.rowMajor_val_three]
      show ((a.val * m + r.val / (8 * b)) * (8 * b) + r.val % (8 * b)) * 128 + c.val
        = (a.val * (8 * (m * b)) + r.val) * 128 + c.val
      conv_rhs => rw [← hdr]
      ring)
  have hassoc : 8 * b * (r.val / (8 * b)) = 8 * (r.val / (8 * b) * b) := by ring
  rw [e, hx _ _ _ (by show r.val % (8 * b) % 8 = s; omega) hcl]
  congr 1
  show off ((a.val * m + r.val / (8 * b)) / m) + (a.val * m + r.val / (8 * b)) % m * b + r.val % (8 * b) / 8
    = off a.val + r.val / 8
  rw [Nat.mul_comm a.val m, Nat.mul_add_div hm, Nat.mul_add_mod, Nat.div_eq_of_lt hqm, Nat.mod_eq_of_lt hqm, Nat.add_zero]
  omega

/-- The whole block cut into rows of `b` entries. -/
theorem fromM_rep {A B : ℕ} (b : ℕ) (hB : B = 8 * b) {x : FVec Ideal M .f32} {X : ℕ → EReal} (hx : RepM s l x X)
    (hA : A * B = 2048) (hc : M.ShapeCasts (V A B)) : Rep s l (shapeCast (V A B) x hc) (fun a => a * b) X := by
  subst hB
  intro a r c hr hcl
  have hlt : a.val * (8 * b) + r.val < 2048 := by
    have h2 : (a.val + 1) * (8 * b) ≤ A * (8 * b) := Nat.mul_le_mul_right _ a.isLt
    rw [Nat.add_mul] at h2
    have := r.isLt
    omega
  have e := shapeCast_apply x hc (ix3 a r c) (ix2 ⟨a.val * (8 * b) + r.val, hlt⟩ c) (by
      rw [Shape.rowMajor_val_two, Shape.rowMajor_val_three]
      rfl)
  have hassoc : a.val * (8 * b) = 8 * (a.val * b) := by ring
  rw [e, hx _ _ (by show (a.val * (8 * b) + r.val) % 8 = s; omega) hcl]
  congr 1
  show (a.val * (8 * b) + r.val) / 8 = a.val * b + r.val / 8
  omega

/-- Rows of `b` entries put together to the whole block. -/
theorem toM_rep {A B : ℕ} (b : ℕ) (hB : B = 8 * b) {x : Arr A B} {X : ℕ → EReal} (hx : Rep s l x (fun a => a * b) X)
    (hA : A * B = 2048) (hc : (V A B).ShapeCasts M) : RepM s l (shapeCast M x hc) X := by
  subst hB
  intro r c hr hcl
  have hb : 0 < 8 * b := Nat.pos_of_ne_zero fun h => by rw [h] at hA; omega
  have hmod := Nat.mod_lt r.val hb
  have hdr := Nat.div_add_mod r.val (8 * b)
  have hq : r.val / (8 * b) < A := Nat.div_lt_of_lt_mul (by rw [Nat.mul_comm, hA]; exact r.isLt)
  have e := shapeCast_apply x hc (ix2 r c) (ix3 ⟨r.val / (8 * b), hq⟩ ⟨r.val % (8 * b), hmod⟩ c) (by
      rw [Shape.rowMajor_val_two, Shape.rowMajor_val_three]
      show (r.val / (8 * b) * (8 * b) + r.val % (8 * b)) * 128 + c.val = r.val * 128 + c.val
      conv_rhs => rw [← hdr]
      ring)
  have hassoc : 8 * b * (r.val / (8 * b)) = 8 * (r.val / (8 * b) * b) := by ring
  rw [e, hx _ _ _ (by show r.val % (8 * b) % 8 = s; omega) hcl]
  congr 1
  show r.val / (8 * b) * b + r.val % (8 * b) / 8 = r.val / 8
  omega

end Cert.Sort
-- ==== Proof.Steps.lean ====
/- The 20 vector steps of the kernel's sort, each one or two half-cleaning steps of every column, and that together they run
   the network on each column. -/
module

public import proofs.«01_k».proof.Proof.Layout

@[expose] public section

noncomputable section

namespace Cert.Sort

open Idealize.ShloMosaic

variable {s l : ℕ}

/-- A vector may be cast to another shape of rows if the sizes agree. -/
theorem casts_V {A B A' B' : ℕ} (h : A * B = A' * B') : (V A B).ShapeCasts (V A' B') := by
  show (V A' B').numel = (V A B).numel
  unfold Shape.numel
  rw [Fin.prod_univ_three, Fin.prod_univ_three]
  show A' * B' * 128 = A * B * 128
  rw [h]

/-- The number of elements of a block. -/
theorem numel_M : M.numel = 2048 * 128 := by
  unfold Shape.numel
  rw [Fin.prod_univ_two]
  rfl

/-- A block may be cast to rows. -/
theorem casts_MV {A B : ℕ} (h : A * B = 2048) : M.ShapeCasts (V A B) := by
  show (V A B).numel = M.numel
  rw [numel_M]
  unfold Shape.numel
  rw [Fin.prod_univ_three]
  show A * B * 128 = 2048 * 128
  rw [h]

/-- Rows may be cast to a block. -/
theorem casts_VM {A B : ℕ} (h : A * B = 2048) : (V A B).ShapeCasts M := (casts_MV h).symm

/-- A vector operation that does the column operation `T` on every row, reading each row as blocks of `w` entries that are
    sorted in the one direction `asc`. -/
def Acts (s l : ℕ) (asc : Bool) (w : ℕ) {A B : ℕ} (f : Arr A B → Arr A B)
    (T : (ℕ → Bool) → (ℕ → EReal) → (ℕ → EReal)) : Prop :=
  ∀ (D : ℕ → Bool) (x : Arr A B) (off : ℕ → ℕ) (X : ℕ → EReal), Rep s l x off X → (∀ a < A, off a % w = 0) →
    (∀ a < A, ∀ b < w, D (off a + b) = asc) → Rep s l (f x) off (T D X)

/-- One half-cleaning step of each row acts on the columns as one step. -/
theorem hc1_acts (asc : Bool) (A h : ℕ) :
    Acts s l asc (2 * h) (A := A) (hc1 asc h) (fun D => hcf D h) :=
  fun D _ _ _ hx hoff hD => hc1_rep asc D hx hoff hD

/-- Two half-cleaning steps of each row act on the columns as two steps. -/
theorem hc2_acts (asc : Bool) (A h : ℕ) :
    Acts s l asc (4 * h) (A := A) (hc2 asc h) (fun D X => hcf D h (hcf D (2 * h) X)) :=
  fun D _ _ _ hx hoff hD => hc2_rep asc D hx hoff hD

/-- An operation done on each row cut into `m` rows. -/
def inner {A B A' B' : ℕ} (hAB : A * B = A' * B') (f : Arr A' B' → Arr A' B') (x : Arr A B) : Arr A B :=
  shapeCast (V A B) (f (shapeCast (V A' B') x (casts_V hAB))) (casts_V hAB.symm)

/-- Steps of shorter rows act on the longer rows. -/
theorem inner_acts {A B A' B' : ℕ} (hAB : A * B = A' * B') (f : Arr A' B' → Arr A' B') (asc : Bool) (m w : ℕ)
    (hB : B = 8 * (m * w)) (hA' : A' = A * m) (hB' : B' = 8 * w) (T : (ℕ → Bool) → (ℕ → EReal) → (ℕ → EReal))
    (hf : Acts s l asc w f T) : Acts s l asc (m * w) (inner hAB f) T := by
  intro D x off X hx hoff hD
  have ha' : ∀ a < A', 0 < m ∧ a / m < A := fun a ha => by
    have hm : 0 < m := Nat.pos_of_ne_zero fun h => by subst h; omega
    exact ⟨hm, Nat.div_lt_of_lt_mul (Nat.lt_of_lt_of_eq ha (by rw [hA', Nat.mul_comm]))⟩
  refine merge_rep m w hB hA' hB' (hf D _ _ X (split_rep m w hB hA' hB' hx (casts_V hAB)) (fun a ha => ?_) fun a ha b hb => ?_) _
  · have h := hoff _ (ha' a ha).2
    have hd : w ∣ off (a / m) := (Dvd.intro_left m rfl).trans (Nat.dvd_of_mod_eq_zero h)
    exact Nat.mod_eq_zero_of_dvd (Nat.dvd_add hd (Dvd.intro_left _ rfl))
  · rw [Nat.add_assoc]
    refine hD _ (ha' a ha).2 _ ?_
    have h2 : (a % m + 1) * w ≤ m * w := Nat.mul_le_mul_right w (Nat.mod_lt a (ha' a ha).1)
    rw [Nat.add_mul] at h2
    omega

/-- One directional step of the whole block: blocks of `w` entries, the even ones by `f`, the odd ones by `g`. -/
def both {A : ℕ} (w : ℕ) (hA : A * (2 * (8 * w)) = 2048) (f g : Arr A (8 * w) → Arr A (8 * w)) (x : FVec Ideal M .f32) :
    FVec Ideal M .f32 :=
  let y : Arr A (2 * (8 * w)) := shapeCast (V A (2 * (8 * w))) x (casts_MV hA)
  shapeCast M (cat2 (f (cut (8 * 0) (8 * w) y (by omega))) (g (cut (8 * w) (8 * w) y (by omega)))) (casts_VM hA)

/-- Steps of two halves, ascending in one and descending in the other, act on the block. -/
theorem both_acts {A : ℕ} (w : ℕ) (hA : A * (2 * (8 * w)) = 2048) (f g : Arr A (8 * w) → Arr A (8 * w))
    (T : (ℕ → Bool) → (ℕ → EReal) → (ℕ → EReal)) (hf : Acts s l true w f T) (hg : Acts s l false w g T)
    (x : FVec Ideal M .f32) (X : ℕ → EReal) (hx : RepM s l x X) : RepM s l (both w hA f g x) (T (up w) X) := by
  have hB : 2 * (8 * w) = 8 * (2 * w) := by omega
  have hw : 0 < w := Nat.pos_of_ne_zero fun h => by subst h; omega
  have hy := fromM_rep (2 * w) hB hx hA (casts_MV hA)
  refine toM_rep (2 * w) hB (cat2_rep (hf (up w) _ _ X (hy.cut 0 (8 * w) (by omega)) (fun a _ => ?_) fun a _ b hb => ?_)
    (hg (up w) _ _ X (hy.cut w (8 * w) (by omega)) (fun a _ => ?_) fun a _ b hb => ?_)) hA _
  · show a * (2 * w) % w = 0
    exact Nat.mod_eq_zero_of_dvd ⟨a * 2, by ring⟩
  · show up w (a * (2 * w) + b) = true
    refine decide_eq_true ?_
    rw [show a * (2 * w) + b = w * (2 * a) + b by ring, Nat.mul_add_div hw, Nat.div_eq_of_lt hb]
    omega
  · show (a * (2 * w) + w) % w = 0
    exact Nat.mod_eq_zero_of_dvd ⟨a * 2 + 1, by ring⟩
  · show up w (a * (2 * w) + w + b) = false
    refine decide_eq_false ?_
    rw [show a * (2 * w) + w + b = w * (2 * a + 1) + b by ring, Nat.mul_add_div hw, Nat.div_eq_of_lt hb]
    omega

/-- One step of the last phase: the whole block in increasing order. -/
def whole (f : Arr 1 2048 → Arr 1 2048) (x : FVec Ideal M .f32) : FVec Ideal M .f32 :=
  shapeCast M (f (shapeCast (V 1 2048) x (casts_MV rfl))) (casts_VM rfl)

/-- Steps of the one row that is the whole block act on the block. -/
theorem whole_acts (f : Arr 1 2048 → Arr 1 2048) (T : (ℕ → Bool) → (ℕ → EReal) → (ℕ → EReal))
    (hf : Acts s l true 256 f T) (x : FVec Ideal M .f32) (X : ℕ → EReal) (hx : RepM s l x X) :
    RepM s l (whole f x) (T (up 256) X) := by
  refine toM_rep 256 rfl (hf (up 256) _ _ X (fromM_rep 256 rfl hx rfl (casts_MV rfl)) (fun a ha => ?_) fun a ha b hb => ?_) rfl _
  · show a * 256 % 256 = 0
    omega
  · show up 256 (a * 256 + b) = true
    refine decide_eq_true ?_
    omega

/-! ## The phases -/

/-- Phase 2 on a block. -/
def k2 (x : FVec Ideal M .f32) : FVec Ideal M .f32 := both (A := 64) 2 rfl (hc1 true 1) (hc1 false 1) x

/-- Phase 4 on a block. -/
def k4 (x : FVec Ideal M .f32) : FVec Ideal M .f32 := both (A := 32) 4 rfl (hc2 true 1) (hc2 false 1) x

/-- The first part of phase 8 on a block. -/
def k8a (x : FVec Ideal M .f32) : FVec Ideal M .f32 := both (A := 16) 8 rfl (hc2 true 2) (hc2 false 2) x

/-- The second part of phase 8 on a block. -/
def k8b (x : FVec Ideal M .f32) : FVec Ideal M .f32 :=
  both (A := 16) 8 rfl (inner (A' := 64) (B' := 16) rfl (hc1 true 1)) (inner (A' := 64) (B' := 16) rfl (hc1 false 1)) x

/-- The first part of phase 16 on a block. -/
def k16a (x : FVec Ideal M .f32) : FVec Ideal M .f32 := both (A := 8) 16 rfl (hc2 true 4) (hc2 false 4) x

/-- The second part of phase 16 on a block. -/
def k16b (x : FVec Ideal M .f32) : FVec Ideal M .f32 :=
  both (A := 8) 16 rfl (inner (A' := 32) (B' := 32) rfl (hc2 true 1)) (inner (A' := 32) (B' := 32) rfl (hc2 false 1)) x

/-- The first part of phase 32 on a block. -/
def k32a (x : FVec Ideal M .f32) : FVec Ideal M .f32 := both (A := 4) 32 rfl (hc2 true 8) (hc2 false 8) x

/-- The second part of phase 32 on a block. -/
def k32b (x : FVec Ideal M .f32) : FVec Ideal M .f32 :=
  both (A := 4) 32 rfl (inner (A' := 16) (B' := 64) rfl (hc2 true 2)) (inner (A' := 16) (B' := 64) rfl (hc2 false 2)) x

/-- The third part of phase 32 on a block. -/
def k32c (x : FVec Ideal M .f32) : FVec Ideal M .f32 :=
  both (A := 4) 32 rfl (inner (A' := 64) (B' := 16) rfl (hc1 true 1)) (inner (A' := 64) (B' := 16) rfl (hc1 false 1)) x

/-- The first part of phase 64 on a block. -/
def k64a (x : FVec Ideal M .f32) : FVec Ideal M .f32 := both (A := 2) 64 rfl (hc2 true 16) (hc2 false 16) x

/-- The second part of phase 64 on a block. -/
def k64b (x : FVec Ideal M .f32) : FVec Ideal M .f32 :=
  both (A := 2) 64 rfl (inner (A' := 8) (B' := 128) rfl (hc2 true 4)) (inner (A' := 8) (B' := 128) rfl (hc2 false 4)) x

/-- The third part of phase 64 on a block. -/
def k64c (x : FVec Ideal M .f32) : FVec Ideal M .f32 :=
  both (A := 2) 64 rfl (inner (A' := 32) (B' := 32) rfl (hc2 true 1)) (inner (A' := 32) (B' := 32) rfl (hc2 false 1)) x

/-- The first part of phase 128 on a block. -/
def k128a (x : FVec Ideal M .f32) : FVec Ideal M .f32 := both (A := 1) 128 rfl (hc2 true 32) (hc2 false 32) x

/-- The second part of phase 128 on a block. -/
def k128b (x : FVec Ideal M .f32) : FVec Ideal M .f32 :=
  both (A := 1) 128 rfl (inner (A' := 4) (B' := 256) rfl (hc2 true 8)) (inner (A' := 4) (B' := 256) rfl (hc2 false 8)) x

/-- The third part of phase 128 on a block. -/
def k128c (x : FVec Ideal M .f32) : FVec Ideal M .f32 :=
  both (A := 1) 128 rfl (inner (A' := 16) (B' := 64) rfl (hc2 true 2)) (inner (A' := 16) (B' := 64) rfl (hc2 false 2)) x

/-- The fourth part of phase 128 on a block. -/
def k128d (x : FVec Ideal M .f32) : FVec Ideal M .f32 :=
  both (A := 1) 128 rfl (inner (A' := 64) (B' := 16) rfl (hc1 true 1)) (inner (A' := 64) (B' := 16) rfl (hc1 false 1)) x

/-- The first part of phase 256 on a block. -/
def k256a (x : FVec Ideal M .f32) : FVec Ideal M .f32 := whole (hc2 true 64) x

/-- The second part of phase 256 on a block. -/
def k256b (x : FVec Ideal M .f32) : FVec Ideal M .f32 := whole (inner (A' := 4) (B' := 512) rfl (hc2 true 16)) x

/-- The third part of phase 256 on a block. -/
def k256c (x : FVec Ideal M .f32) : FVec Ideal M .f32 := whole (inner (A' := 16) (B' := 128) rfl (hc2 true 4)) x

/-- The fourth part of phase 256 on a block. -/
def k256d (x : FVec Ideal M .f32) : FVec Ideal M .f32 := whole (inner (A' := 64) (B' := 32) rfl (hc2 true 1)) x
/-- The whole sort of the block. -/
def sortM (x : FVec Ideal M .f32) : FVec Ideal M .f32 :=
  k256d (k256c (k256b (k256a (k128d (k128c (k128b (k128a (k64c (k64b (k64a (k32c (k32b (k32a (k16b (k16a (k8b (k8a (k4 (k2 x)))))))))))))))))))

/-- Phase 2 makes of the columns what the network's steps make of them. -/
theorem k2_rep (x : FVec Ideal M .f32) (X : ℕ → EReal) (hx : RepM s l x X) :
    RepM s l (k2 x) (hcf (up 2) 1 X) :=
  both_acts 2 rfl _ _ (fun D => hcf D 1) (hc1_acts true 64 1)
    (hc1_acts false 64 1) x X hx

/-- Phase 4 makes of the columns what the network's steps make of them. -/
theorem k4_rep (x : FVec Ideal M .f32) (X : ℕ → EReal) (hx : RepM s l x X) :
    RepM s l (k4 x) (hcf (up 4) 1 (hcf (up 4) 2 X)) :=
  both_acts 4 rfl _ _ (fun D X => hcf D 1 (hcf D 2 X)) (hc2_acts true 32 1)
    (hc2_acts false 32 1) x X hx

/-- The first part of phase 8 makes of the columns what the network's steps make of them. -/
theorem k8a_rep (x : FVec Ideal M .f32) (X : ℕ → EReal) (hx : RepM s l x X) :
    RepM s l (k8a x) (hcf (up 8) 2 (hcf (up 8) 4 X)) :=
  both_acts 8 rfl _ _ (fun D X => hcf D 2 (hcf D 4 X)) (hc2_acts true 16 2)
    (hc2_acts false 16 2) x X hx

/-- The second part of phase 8 makes of the columns what the network's steps make of them. -/
theorem k8b_rep (x : FVec Ideal M .f32) (X : ℕ → EReal) (hx : RepM s l x X) :
    RepM s l (k8b x) (hcf (up 8) 1 X) :=
  both_acts 8 rfl _ _ (fun D => hcf D 1) (inner_acts (A := 16) (B := 64) (A' := 64) (B' := 16) rfl (hc1 true 1) true 4 2 rfl rfl rfl _
      (hc1_acts true 64 1))
    (inner_acts (A := 16) (B := 64) (A' := 64) (B' := 16) rfl (hc1 false 1) false 4 2 rfl rfl rfl _
      (hc1_acts false 64 1)) x X hx

/-- The first part of phase 16 makes of the columns what the network's steps make of them. -/
theorem k16a_rep (x : FVec Ideal M .f32) (X : ℕ → EReal) (hx : RepM s l x X) :
    RepM s l (k16a x) (hcf (up 16) 4 (hcf (up 16) 8 X)) :=
  both_acts 16 rfl _ _ (fun D X => hcf D 4 (hcf D 8 X)) (hc2_acts true 8 4)
    (hc2_acts false 8 4) x X hx

/-- The second part of phase 16 makes of the columns what the network's steps make of them. -/
theorem k16b_rep (x : FVec Ideal M .f32) (X : ℕ → EReal) (hx : RepM s l x X) :
    RepM s l (k16b x) (hcf (up 16) 1 (hcf (up 16) 2 X)) :=
  both_acts 16 rfl _ _ (fun D X => hcf D 1 (hcf D 2 X)) (inner_acts (A := 8) (B := 128) (A' := 32) (B' := 32) rfl (hc2 true 1) true 4 4 rfl rfl rfl _
      (hc2_acts true 32 1))
    (inner_acts (A := 8) (B := 128) (A' := 32) (B' := 32) rfl (hc2 false 1) false 4 4 rfl rfl rfl _
      (hc2_acts false 32 1)) x X hx

/-- The first part of phase 32 makes of the columns what the network's steps make of them. -/
theorem k32a_rep (x : FVec Ideal M .f32) (X : ℕ → EReal) (hx : RepM s l x X) :
    RepM s l (k32a x) (hcf (up 32) 8 (hcf (up 32) 16 X)) :=
  both_acts 32 rfl _ _ (fun D X => hcf D 8 (hcf D 16 X)) (hc2_acts true 4 8)
    (hc2_acts false 4 8) x X hx

/-- The second part of phase 32 makes of the columns what the network's steps make of them. -/
theorem k32b_rep (x : FVec Ideal M .f32) (X : ℕ → EReal) (hx : RepM s l x X) :
    RepM s l (k32b x) (hcf (up 32) 2 (hcf (up 32) 4 X)) :=
  both_acts 32 rfl _ _ (fun D X => hcf D 2 (hcf D 4 X)) (inner_acts (A := 4) (B := 256) (A' := 16) (B' := 64) rfl (hc2 true 2) true 4 8 rfl rfl rfl _
      (hc2_acts true 16 2))
    (inner_acts (A := 4) (B := 256) (A' := 16) (B' := 64) rfl (hc2 false 2) false 4 8 rfl rfl rfl _
      (hc2_acts false 16 2)) x X hx

/-- The third part of phase 32 makes of the columns what the network's steps make of them. -/
theorem k32c_rep (x : FVec Ideal M .f32) (X : ℕ → EReal) (hx : RepM s l x X) :
    RepM s l (k32c x) (hcf (up 32) 1 X) :=
  both_acts 32 rfl _ _ (fun D => hcf D 1) (inner_acts (A := 4) (B := 256) (A' := 64) (B' := 16) rfl (hc1 true 1) true 16 2 rfl rfl rfl _
      (hc1_acts true 64 1))
    (inner_acts (A := 4) (B := 256) (A' := 64) (B' := 16) rfl (hc1 false 1) false 16 2 rfl rfl rfl _
      (hc1_acts false 64 1)) x X hx

/-- The first part of phase 64 makes of the columns what the network's steps make of them. -/
theorem k64a_rep (x : FVec Ideal M .f32) (X : ℕ → EReal) (hx : RepM s l x X) :
    RepM s l (k64a x) (hcf (up 64) 16 (hcf (up 64) 32 X)) :=
  both_acts 64 rfl _ _ (fun D X => hcf D 16 (hcf D 32 X)) (hc2_acts true 2 16)
    (hc2_acts false 2 16) x X hx

/-- The second part of phase 64 makes of the columns what the network's steps make of them. -/
theorem k64b_rep (x : FVec Ideal M .f32) (X : ℕ → EReal) (hx : RepM s l x X) :
    RepM s l (k64b x) (hcf (up 64) 4 (hcf (up 64) 8 X)) :=
  both_acts 64 rfl _ _ (fun D X => hcf D 4 (hcf D 8 X)) (inner_acts (A := 2) (B := 512) (A' := 8) (B' := 128) rfl (hc2 true 4) true 4 16 rfl rfl rfl _
      (hc2_acts true 8 4))
    (inner_acts (A := 2) (B := 512) (A' := 8) (B' := 128) rfl (hc2 false 4) false 4 16 rfl rfl rfl _
      (hc2_acts false 8 4)) x X hx

/-- The third part of phase 64 makes of the columns what the network's steps make of them. -/
theorem k64c_rep (x : FVec Ideal M .f32) (X : ℕ → EReal) (hx : RepM s l x X) :
    RepM s l (k64c x) (hcf (up 64) 1 (hcf (up 64) 2 X)) :=
  both_acts 64 rfl _ _ (fun D X => hcf D 1 (hcf D 2 X)) (inner_acts (A := 2) (B := 512) (A' := 32) (B' := 32) rfl (hc2 true 1) true 16 4 rfl rfl rfl _
      (hc2_acts true 32 1))
    (inner_acts (A := 2) (B := 512) (A' := 32) (B' := 32) rfl (hc2 false 1) false 16 4 rfl rfl rfl _
      (hc2_acts false 32 1)) x X hx

/-- The first part of phase 128 makes of the columns what the network's steps make of them. -/
theorem k128a_rep (x : FVec Ideal M .f32) (X : ℕ → EReal) (hx : RepM s l x X) :
    RepM s l (k128a x) (hcf (up 128) 32 (hcf (up 128) 64 X)) :=
  both_acts 128 rfl _ _ (fun D X => hcf D 32 (hcf D 64 X)) (hc2_acts true 1 32)
    (hc2_acts false 1 32) x X hx

/-- The second part of phase 128 makes of the columns what the network's steps make of them. -/
theorem k128b_rep (x : FVec Ideal M .f32) (X : ℕ → EReal) (hx : RepM s l x X) :
    RepM s l (k128b x) (hcf (up 128) 8 (hcf (up 128) 16 X)) :=
  both_acts 128 rfl _ _ (fun D X => hcf D 8 (hcf D 16 X)) (inner_acts (A := 1) (B := 1024) (A' := 4) (B' := 256) rfl (hc2 true 8) true 4 32 rfl rfl rfl _
      (hc2_acts true 4 8))
    (inner_acts (A := 1) (B := 1024) (A' := 4) (B' := 256) rfl (hc2 false 8) false 4 32 rfl rfl rfl _
      (hc2_acts false 4 8)) x X hx

/-- The third part of phase 128 makes of the columns what the network's steps make of them. -/
theorem k128c_rep (x : FVec Ideal M .f32) (X : ℕ → EReal) (hx : RepM s l x X) :
    RepM s l (k128c x) (hcf (up 128) 2 (hcf (up 128) 4 X)) :=
  both_acts 128 rfl _ _ (fun D X => hcf D 2 (hcf D 4 X)) (inner_acts (A := 1) (B := 1024) (A' := 16) (B' := 64) rfl (hc2 true 2) true 16 8 rfl rfl rfl _
      (hc2_acts true 16 2))
    (inner_acts (A := 1) (B := 1024) (A' := 16) (B' := 64) rfl (hc2 false 2) false 16 8 rfl rfl rfl _
      (hc2_acts false 16 2)) x X hx

/-- The fourth part of phase 128 makes of the columns what the network's steps make of them. -/
theorem k128d_rep (x : FVec Ideal M .f32) (X : ℕ → EReal) (hx : RepM s l x X) :
    RepM s l (k128d x) (hcf (up 128) 1 X) :=
  both_acts 128 rfl _ _ (fun D => hcf D 1) (inner_acts (A := 1) (B := 1024) (A' := 64) (B' := 16) rfl (hc1 true 1) true 64 2 rfl rfl rfl _
      (hc1_acts true 64 1))
    (inner_acts (A := 1) (B := 1024) (A' := 64) (B' := 16) rfl (hc1 false 1) false 64 2 rfl rfl rfl _
      (hc1_acts false 64 1)) x X hx

/-- The first part of phase 256 makes of the columns what the network's steps make of them. -/
theorem k256a_rep (x : FVec Ideal M .f32) (X : ℕ → EReal) (hx : RepM s l x X) :
    RepM s l (k256a x) (hcf (up 256) 64 (hcf (up 256) 128 X)) :=
  whole_acts _ (fun D X => hcf D 64 (hcf D 128 X)) (hc2_acts true 1 64) x X hx

/-- The second part of phase 256 makes of the columns what the network's steps make of them. -/
theorem k256b_rep (x : FVec Ideal M .f32) (X : ℕ → EReal) (hx : RepM s l x X) :
    RepM s l (k256b x) (hcf (up 256) 16 (hcf (up 256) 32 X)) :=
  whole_acts _ (fun D X => hcf D 16 (hcf D 32 X)) (inner_acts (A := 1) (B := 2048) (A' := 4) (B' := 512) rfl (hc2 true 16) true 4 64 rfl rfl rfl _
      (hc2_acts true 4 16)) x X hx

/-- The third part of phase 256 makes of the columns what the network's steps make of them. -/
theorem k256c_rep (x : FVec Ideal M .f32) (X : ℕ → EReal) (hx : RepM s l x X) :
    RepM s l (k256c x) (hcf (up 256) 4 (hcf (up 256) 8 X)) :=
  whole_acts _ (fun D X => hcf D 4 (hcf D 8 X)) (inner_acts (A := 1) (B := 2048) (A' := 16) (B' := 128) rfl (hc2 true 4) true 16 16 rfl rfl rfl _
      (hc2_acts true 16 4)) x X hx

/-- The fourth part of phase 256 makes of the columns what the network's steps make of them. -/
theorem k256d_rep (x : FVec Ideal M .f32) (X : ℕ → EReal) (hx : RepM s l x X) :
    RepM s l (k256d x) (hcf (up 256) 1 (hcf (up 256) 2 X)) :=
  whole_acts _ (fun D X => hcf D 1 (hcf D 2 X)) (inner_acts (A := 1) (B := 2048) (A' := 64) (B' := 32) rfl (hc2 true 1) true 64 4 rfl rfl rfl _
      (hc2_acts true 64 1)) x X hx

/-- The vector steps run the network on every column. -/
theorem sortM_rep (x : FVec Ideal M .f32) (X : ℕ → EReal) (hx : RepM s l x X) : RepM s l (sortM x) (runSteps steps X) :=
  have h0 := k2_rep _ _ hx
  have h1 := k4_rep _ _ h0
  have h2 := k8a_rep _ _ h1
  have h3 := k8b_rep _ _ h2
  have h4 := k16a_rep _ _ h3
  have h5 := k16b_rep _ _ h4
  have h6 := k32a_rep _ _ h5
  have h7 := k32b_rep _ _ h6
  have h8 := k32c_rep _ _ h7
  have h9 := k64a_rep _ _ h8
  have h10 := k64b_rep _ _ h9
  have h11 := k64c_rep _ _ h10
  have h12 := k128a_rep _ _ h11
  have h13 := k128b_rep _ _ h12
  have h14 := k128c_rep _ _ h13
  have h15 := k128d_rep _ _ h14
  have h16 := k256a_rep _ _ h15
  have h17 := k256b_rep _ _ h16
  have h18 := k256c_rep _ _ h17
  have h19 := k256d_rep _ _ h18
  h19

end Cert.Sort
-- ==== Proof.Composed.lean ====
/- The values the kernel's body computes, as printed, are the vector steps of Steps.lean in order: each theorem here names what
   one stretch of the printed body does to the block. -/
module

public import proofs.«01_k».proof.Proof.Steps
public import proofs.«01_k».proof.Proof.Gen.KernelIdeal.Skeleton

@[expose] public section

set_option maxRecDepth 16384

noncomputable section

namespace Cert.Sort

open Idealize.ShloMosaic Cert.KernelIdeal Cert.KernelIdeal.Gen

/-- The block the sort starts from: the rows turned into columns of 200 entries and 56 entries of padding each. -/
def prep (v0 : Vec Ideal S1024x200 .i32) : FVec Ideal M .f32 :=
  shapeCast S2048x128 (concatenate S256x8x128 0
    [⟨S200x8x128, sitofp .f32 (transpose S200x8x128 [2, 0, 1] (shapeCast S8x128x200 v0 shapeCasts_S1024x200_S8x128x200)
      transposes_S8x128x200_p2_0_1_S200x8x128)⟩,
     ⟨S56x8x128, broadcast S56x8x128 (Scalar.ofBits .f32 0x48800000#32)⟩] concatenates_S200x8x128_S56x8x128_S256x8x128_d0)
    shapeCasts_S256x8x128_S2048x128

/-- The first stretch runs phases 2 and 4. -/
theorem pay4_eq (v0 : Vec Ideal S1024x200 .i32) :
    k0_pay4 v0 = shapeCast S16x128x128 (k4 (k2 (prep v0))) shapeCasts_S2048x128_S16x128x128 := rfl

/-- The second stretch runs phase 8. -/
theorem pay6_eq (v0 : Vec Ideal S1024x200 .i32) :
    k0_pay6 (k0_pay4 v0) (k0_pay5 v0)
      = shapeCast S8x256x128 (k8b (k8a (k4 (k2 (prep v0))))) shapeCasts_S2048x128_S8x256x128 := by
  unfold k0_pay5
  rw [pay4_eq]
  generalize k4 (k2 (prep v0)) = m
  rfl

section stretches

variable (v53 : FVec Ideal S16x128x128 .f32) (v54 : FVec Ideal S16x64x128 .f32) (m : FVec Ideal M .f32)

/-- The third stretch runs phase 16. -/
theorem pay18_eq (h : k0_pay6 v53 v54 = shapeCast S8x256x128 m shapeCasts_S2048x128_S8x256x128) :
    k0_pay18 (k0_pay6 v53 v54) (k0_pay14 v53 v54) (k0_pay15 v53 v54) (k0_pay16 v53 v54) (k0_pay17 v53 v54)
      = shapeCast S4x512x128 (k16b (k16a m)) shapeCasts_S2048x128_S4x512x128 := by
  unfold k0_pay14 k0_pay15 k0_pay16 k0_pay17 k0_pay12 k0_pay13 k0_pay11 k0_pay10 k0_pay9 k0_pay8 k0_pay7
  rw [h]
  rfl

variable (v103 : FVec Ideal S8x256x128 .f32) (v111 v112 v113 v114 : FVec Ideal S8x32x128 .f32)

/-- The fourth stretch runs phase 32 down to distance 2. -/
theorem pay24_eq (h : k0_pay18 v103 v111 v112 v113 v114 = shapeCast S4x512x128 m shapeCasts_S2048x128_S4x512x128) :
    k0_pay24 (k0_pay18 v103 v111 v112 v113 v114) (k0_pay22 v103 v111 v112 v113 v114) (k0_pay23 v103 v111 v112 v113 v114)
      = k32b (k32a m) := by
  unfold k0_pay22 k0_pay23 k0_pay21 k0_pay20 k0_pay19
  rw [h]
  rfl

/-- The fifth stretch ends phase 32 and begins phase 64. -/
theorem pay25_eq : k0_pay25 m = shapeCast S2x1024x128 (k64a (k32c m)) shapeCasts_S2048x128_S2x1024x128 := rfl

/-- The sixth stretch ends phase 64. -/
theorem pay34_eq : k0_pay34 (k0_pay25 m) (k0_pay30 m) (k0_pay31 m) (k0_pay32 m) (k0_pay33 m)
    = k64c (k64b (k64a (k32c m))) := by
  unfold k0_pay33 k0_pay32 k0_pay31 k0_pay30 k0_pay29 k0_pay28 k0_pay27 k0_pay26
  rw [pay25_eq]
  generalize k64a (k32c m) = n
  rfl

/-- The seventh stretch begins phase 128. -/
theorem pay35_eq : k0_pay35 m = shapeCast S1x2048x128 (k128a m) shapeCasts_S2048x128_S1x2048x128 := rfl

/-- The eighth stretch ends phase 128. -/
theorem pay48_eq : k0_pay48 (k0_pay36 m) (k0_pay44 m) (k0_pay45 m) (k0_pay46 m) (k0_pay47 m)
    = k128d (k128c (k128b (k128a m))) := by
  unfold k0_pay47 k0_pay46 k0_pay45 k0_pay44 k0_pay43 k0_pay42 k0_pay41 k0_pay40 k0_pay39 k0_pay38 k0_pay37 k0_pay36
  rw [pay35_eq]
  generalize k128a m = n
  rfl

/-- The ninth stretch runs phase 256 down to distance 4. -/
theorem pay49_eq : k0_pay49 m
    = shapeCast S64x32x128 (shapeCast S1x2048x128 (k256c (k256b (k256a m))) shapeCasts_S2048x128_S1x2048x128)
        shapeCasts_S1x2048x128_S64x32x128 := rfl

/-- What the last stretch computes of the sorted block: minus a quarter of one more than the number of changes among the
    first 200 entries. -/
def count (x : FVec Ideal M .f32) : FVec Ideal S8x128 .f32 :=
  have v541 : FVec Ideal S256x8x128 .f32 := shapeCast S256x8x128 x shapeCasts_S2048x128_S256x8x128
  mulf (broadcast S8x128 (Scalar.ofBits .f32 0xBE800000#32)) (addf (broadcast S8x128 (Scalar.ofBits .f32 0x3F800000#32))
    (multiReduction .add [0] S8x128 (sitofp .f32 (extui 32 (cmpf .one
      (extractStridedSlice S199x8x128 ![1, 0, 0] v541 slices_S256x8x128_o1_0_0_S199x8x128)
      (extractStridedSlice S199x8x128 ![0, 0, 0] v541 slices_S256x8x128_o0_0_0_S199x8x128)) natLt_1_32))
      0x00000000#32 reduces_S199x8x128_S8x128 (.inl rfl) rfl))

/-- The last stretch ends phase 256 and counts. -/
theorem pay1_eq : k0_pay1 (k0_pay53 m) (k0_pay56 m) (k0_pay57 m) (k0_pay58 m)
    = count (k256d (k256c (k256b (k256a m)))) := by
  unfold k0_pay58 k0_pay57 k0_pay56 k0_pay55 k0_pay54 k0_pay53 k0_pay52 k0_pay51 k0_pay50
  rw [pay49_eq]
  generalize k256c (k256b (k256a m)) = n
  rfl

end stretches

section composed

variable (v0 : Vec Ideal S1024x200 .i32)

/-- The block after the phases up to 16. -/
theorem upTo16_eq : k0_pay18 (k0_pay6 (k0_pay4 v0) (k0_pay5 v0)) (k0_pay14 (k0_pay4 v0) (k0_pay5 v0))
    (k0_pay15 (k0_pay4 v0) (k0_pay5 v0)) (k0_pay16 (k0_pay4 v0) (k0_pay5 v0)) (k0_pay17 (k0_pay4 v0) (k0_pay5 v0))
      = shapeCast S4x512x128 (k16b (k16a (k8b (k8a (k4 (k2 (prep v0))))))) shapeCasts_S2048x128_S4x512x128 :=
  pay18_eq _ _ _ (pay6_eq v0)

/-- What one block of rows contributes: minus a quarter of the number of runs of its sorted rows. -/
def blockVal : FVec Ideal S8x128 .f32 := count (sortM (prep v0))

/-- The last stretch, of a block that the earlier stretches made, is the block's contribution. -/
theorem composed_eq (v103 : FVec Ideal S8x256x128 .f32) (v111 v112 v113 v114 : FVec Ideal S8x32x128 .f32)
    (v169 : FVec Ideal S4x512x128 .f32) (v234 v354 v474 : FVec Ideal M .f32)
    (h103 : v103 = k0_pay6 (k0_pay4 v0) (k0_pay5 v0))
    (h111 : v111 = k0_pay14 (k0_pay4 v0) (k0_pay5 v0)) (h112 : v112 = k0_pay15 (k0_pay4 v0) (k0_pay5 v0))
    (h113 : v113 = k0_pay16 (k0_pay4 v0) (k0_pay5 v0)) (h114 : v114 = k0_pay17 (k0_pay4 v0) (k0_pay5 v0))
    (h169 : v169 = k0_pay18 v103 v111 v112 v113 v114)
    (h234 : v234 = k0_pay24 v169 (k0_pay22 v103 v111 v112 v113 v114) (k0_pay23 v103 v111 v112 v113 v114))
    (h354 : v354 = k0_pay34 (k0_pay25 v234) (k0_pay30 v234) (k0_pay31 v234) (k0_pay32 v234) (k0_pay33 v234))
    (h474 : v474 = k0_pay48 (k0_pay36 v354) (k0_pay44 v354) (k0_pay45 v354) (k0_pay46 v354) (k0_pay47 v354)) :
    k0_pay1 (k0_pay53 v474) (k0_pay56 v474) (k0_pay57 v474) (k0_pay58 v474) = blockVal v0 := by
  have e1 : k0_pay18 v103 v111 v112 v113 v114
      = shapeCast S4x512x128 (k16b (k16a (k8b (k8a (k4 (k2 (prep v0))))))) shapeCasts_S2048x128_S4x512x128 := by
    rw [h103, h111, h112, h113, h114]; exact upTo16_eq v0
  have e2 := pay24_eq _ v103 v111 v112 v113 v114 e1
  rw [← h169, ← h234] at e2
  have e3 := pay34_eq v234
  rw [← h354, e2] at e3
  have e4 := pay48_eq v354
  rw [← h474, e3] at e4
  rw [pay1_eq, e4]
  rfl

end composed

end Cert.Sort
-- ==== Proof.Body.lean ====
/- What the kernel's body leaves in the output's block, in each of its two cases: the contribution of the block of rows it
   has loaded, alone or added to what the block held. -/
module

public import proofs.«01_k».proof.Proof.Composed
public import proofs.«01_k».proof.Proof.Gen.KernelIdeal.Frame
public import Idealize.ShloMosaic.Lib.Pipeline.Value

@[expose] public section

set_option maxRecDepth 16384

noncomputable section

namespace Cert.Sort

open Idealize.ShloMosaic Idealize.ShloMosaic.TcCoe Cert.KernelIdeal Cert.KernelIdeal.Gen

/-- Two zero offsets. -/
theorem zeros2 : (![0, 0] : Fin 2 → Nat) = fun _ => 0 := funext fun a => by fin_cases a <;> rfl

/-- Three zero offsets. -/
theorem zeros3 : (![0, 0, 0] : Fin 3 → Nat) = fun _ => 0 := funext fun a => by fin_cases a <;> rfl

/-- At a block's first view the body leaves the contribution of the rows it loads. -/
theorem out_A (c : Dev nD) (i : grid0.Coords) (a2 : Memref sig .tc .vmem S1024x200 .i32) (h2 : a2.IsWhole)
    (a3 : Memref sig .tc .vmem S1x8x128 .f32) (h3 : a3.IsWhole) (hc0 : cond0_0 i) (hc1 : ¬cond0_1 i)
    (x : Vec Ideal S1024x200 .i32) :
    out0_A_1 c i a2 h2 a3 h3 hc0 hc1 x = shapeCast S1x8x128 (blockVal x) shapeCasts_S8x128_S1x8x128 := by
  unfold out0_A_1
  rw [View.read_writes_eq_canon _ _ _ (cover0_A_1 c i a2 h2 a3 h3 hc0 hc1 x)]
  unfold kernelRun0_A
  dsimp only
  sl_unfold_words
  rw [View.canon_unit_zero zeros3]
  unfold k0_pay2
  refine congrArg (fun v => shapeCast S1x8x128 v shapeCasts_S8x128_S1x8x128) ?_
  simp only [View.readAt_eq_ld, h2.read_unread, View.ld_unit_zero (S := S1024x200) zeros2]
  exact composed_eq x _ _ _ _ _ _ _ _ _ rfl rfl rfl rfl rfl rfl rfl rfl rfl

/-- At a block's later views the body adds the contribution of the rows it loads to what the block holds. -/
theorem out_B (c : Dev nD) (i : grid0.Coords) (a2 : Memref sig .tc .vmem S1024x200 .i32) (h2 : a2.IsWhole)
    (a3 : Memref sig .tc .vmem S1x8x128 .f32) (h3 : a3.IsWhole) (hc0 : ¬cond0_0 i) (hc1 : cond0_1 i)
    (x : Vec Ideal S1024x200 .i32) (xo : Vec Ideal S1x8x128 .f32) :
    out0_B_1 c i a2 h2 a3 h3 hc0 hc1 x xo = shapeCast S1x8x128
      (addf (shapeCast S8x128 xo shapeCasts_S1x8x128_S8x128) (blockVal x)) shapeCasts_S8x128_S1x8x128 := by
  unfold out0_B_1
  rw [View.read_writes_eq_canon _ _ _ (cover0_B_1 c i a2 h2 a3 h3 hc0 hc1 x xo)]
  unfold kernelRun0_B
  dsimp only
  sl_unfold_words
  rw [View.canon_unit_zero zeros3]
  unfold k0_pay3
  simp only [View.readAt_eq_ld, h2.read_unread, h3.read_unread, View.ld_unit_zero (S := S1024x200) zeros2,
    View.ld_unit_zero (S := S1x8x128) zeros3]
  refine congrArg (fun v => shapeCast S1x8x128 (addf _ v) shapeCasts_S8x128_S1x8x128) ?_
  exact composed_eq x _ _ _ _ _ _ _ _ _ rfl rfl rfl rfl rfl rfl rfl rfl rfl

end Cert.Sort
-- ==== Proof.Column.lean ====
/- One row of 200 numbers, padded to a column of 256 entries: the network sorts the column into the sorted row followed by the
   padding, and the number of runs of a row is one more than the number of changes along it once sorted. -/
module

public import proofs.«01_k».proof.Proof.Network
public import proofs.«01_k».proof.ReferenceIdeal
public import Idealize.ShloMosaic.Lib.SortFacts
public import Idealize.ShloMosaic.PureOps.Ideal

@[expose] public section

noncomputable section

namespace Cert.Sort

open Idealize.ShloMosaic Cert.ReferenceIdeal

/-- The column of a row: its 200 numbers, then the padding. -/
def column (r : Fin 200 → BitVec 32) (p : ℕ) : EReal :=
  if h : p < 200 then (((r ⟨p, h⟩).toInt : ℝ) : EReal) else ((262144 : ℝ) : EReal)

/-- The position in the row of the entry that sorting puts at `k`. -/
@[irreducible] def source (r : Fin 200 → BitVec 32) : Fin 200 → Fin 200 :=
  sortedFrom fun k k' => comparator_i32_d1 (r k) (r k') == 1#1

/-- The sorted row. -/
def sortedRow (r : Fin 200 → BitVec 32) (k : Fin 200) : BitVec 32 := r (source r k)

/-- One more than the number of changes along the sorted row. -/
def runs (r : Fin 200 → BitVec 32) : ℝ :=
  1 + ∑ k : Fin 199, if sortedRow r ⟨k.val + 1, by omega⟩ ≠ sortedRow r ⟨k.val, by omega⟩ then 1 else 0

/-- The reference's comparison is that of signed numbers. -/
theorem before_iff (a b : BitVec 32) : (comparator_i32_d1 a b == 1#1) = decide (a.toInt < b.toInt) := by
  unfold comparator_i32_d1
  show (BitVec.ofBool (a.slt b) == 1#1) = _
  rw [BitVec.slt_eq_decide]
  by_cases h : a.toInt < b.toInt <;> simp [h]

/-- Sorting leaves no entry above a later one. -/
theorem sorted_le {n : ℕ} (r : Fin n → BitVec 32) (i j : Fin n) (hij : i < j) :
    (r (sortedFrom (fun k k' => comparator_i32_d1 (r k) (r k') == 1#1) i)).toInt
      ≤ (r (sortedFrom (fun k k' => comparator_i32_d1 (r k) (r k') == 1#1) j)).toInt := by
  have e : (fun k k' => comparator_i32_d1 (r k) (r k') == 1#1) = fun k k' => decide ((r k).toInt < (r k').toInt) :=
    funext fun k => funext fun k' => before_iff _ _
  rw [e]
  have h := sortedFrom_noInversion (fun k k' => decide ((r k).toInt < (r k').toInt))
    (fun k k' => decide ((r k).toInt < (r k').toInt))
    (fun a b h => by simp only [decide_eq_true_eq, decide_eq_false_iff_not] at h ⊢; omega)
    (fun _ _ h => h)
    (fun a b c h h' => by simp only [decide_eq_false_iff_not] at h h' ⊢; omega) i j hij
  simp only [decide_eq_false_iff_not, not_lt] at h
  exact h

/-- The sorted row is in ascending order. -/
theorem sortedRow_le (r : Fin 200 → BitVec 32) (i j : Fin 200) (hij : i ≤ j) :
    (sortedRow r i).toInt ≤ (sortedRow r j).toInt := by
  rcases hij.eq_or_lt with h | h
  · rw [h]
  · unfold sortedRow source
    exact sorted_le r i j h

/-- Sorting takes no entry twice. -/
theorem source_injective (r : Fin 200 → BitVec 32) : Function.Injective (source r) := by
  unfold source
  exact sortedFrom_injective _

/-- An entry of a column that is one of the row's numbers. -/
theorem column_lt (r : Fin 200 → BitVec 32) (p : Fin 200) : column r p.val = (((r p).toInt : ℝ) : EReal) := dif_pos p.isLt

/-- An entry of a column that is padding. -/
theorem column_ge (r : Fin 200 → BitVec 32) (p : ℕ) (hp : ¬p < 200) : column r p = ((262144 : ℝ) : EReal) := dif_neg hp

/-- The position in the column of the entry that sorting puts at `p`: the padding stays. -/
def source256 (r : Fin 200 → BitVec 32) (p : Fin 256) : Fin 256 :=
  if h : p.val < 200 then ⟨(source r ⟨p.val, h⟩).val, by omega⟩ else p

/-- Sorting permutes the column. -/
theorem source256_bijective (r : Fin 200 → BitVec 32) : Function.Bijective (source256 r) := by
  refine Finite.injective_iff_bijective.mp fun p q e => ?_
  have es : ∀ q : Fin 200, (source r q).val < 200 := fun q => (source r q).isLt
  have ev := congrArg Fin.val e
  unfold source256 at ev
  by_cases hp : p.val < 200 <;> by_cases hq : q.val < 200
  · rw [dif_pos hp, dif_pos hq] at ev
    have ev' : (source r ⟨p.val, hp⟩).val = (source r ⟨q.val, hq⟩).val := ev
    have h : (⟨p.val, hp⟩ : Fin 200) = ⟨q.val, hq⟩ := source_injective r (Fin.ext ev')
    have h' : p.val = q.val := congrArg (fun k : Fin 200 => k.val) h
    exact Fin.ext h'
  · rw [dif_pos hp, dif_neg hq] at ev
    have h := es ⟨p.val, hp⟩
    have ev' : (source r ⟨p.val, hp⟩).val = q.val := ev
    omega
  · rw [dif_neg hp, dif_pos hq] at ev
    have h := es ⟨q.val, hq⟩
    have ev' : p.val = (source r ⟨q.val, hq⟩).val := ev
    omega
  · rw [dif_neg hp, dif_neg hq] at ev
    exact Fin.ext ev

/-- The network turns a row's column into the sorted row's column, if no number of the row exceeds the padding. -/
theorem steps_column (r : Fin 200 → BitVec 32) (hr : ∀ k, (r k).toInt < 100000) (i : Fin 256) :
    runSteps steps (column r) i.val = column (sortedRow r) i.val := by
  refine runSteps_sorted (column r) (fun p => column (sortedRow r) p.val) ?_ (source256 r) (source256_bijective r) ?_ i
  · intro p q hpq
    have hpq' : p.val ≤ q.val := hpq
    show column (sortedRow r) p.val ≤ column (sortedRow r) q.val
    by_cases hq : q.val < 200
    · have hp : p.val < 200 := by omega
      rw [column_lt _ ⟨p.val, hp⟩, column_lt _ ⟨q.val, hq⟩]
      exact EReal.coe_le_coe_iff.mpr (Int.cast_le.mpr (sortedRow_le r ⟨p.val, hp⟩ ⟨q.val, hq⟩ hpq'))
    · rw [column_ge _ _ hq]
      by_cases hp : p.val < 200
      · rw [column_lt _ ⟨p.val, hp⟩]
        have h : (sortedRow r ⟨p.val, hp⟩).toInt < 100000 := hr _
        have h' : (sortedRow r ⟨p.val, hp⟩).toInt ≤ 262144 := by omega
        exact EReal.coe_le_coe_iff.mpr (by exact_mod_cast h')
      · rw [column_ge _ _ hp]
  · intro p
    show column (sortedRow r) p.val = column r (source256 r p).val
    by_cases hp : p.val < 200
    · have e : (source256 r p).val = (source r ⟨p.val, hp⟩).val := by unfold source256; rw [dif_pos hp]
      rw [e, column_lt _ ⟨p.val, hp⟩, column_lt]
      rfl
    · have e : source256 r p = p := by unfold source256; rw [dif_neg hp]
      rw [e, column_ge _ _ hp, column_ge _ _ hp]

/-- Two entries of a column of numbers differ just where the numbers do. -/
theorem column_ne (r : Fin 200 → BitVec 32) (p q : Fin 200) : column r p.val ≠ column r q.val ↔ r p ≠ r q := by
  rw [column_lt, column_lt, Ne, EReal.coe_eq_coe_iff, Int.cast_inj]
  exact not_congr BitVec.toInt_inj

/-- A sum of reals is the sum in the extended reals. -/
theorem coe_sum {ι : Type} (s : Finset ι) (f : ι → ℝ) : ((∑ k ∈ s, f k : ℝ) : EReal) = ∑ k ∈ s, (f k : EReal) := by
  classical
  induction s using Finset.induction_on with
  | empty => rfl
  | insert a s ha ih => rw [Finset.sum_insert ha, Finset.sum_insert ha, EReal.coe_add, ih]

end Cert.Sort
-- ==== Proof.Block.lean ====
/- What one block of 1024 rows contributes, row by row: minus a quarter of the number of runs of the row's numbers. -/
module

public import proofs.«01_k».proof.Proof.Composed
public import proofs.«01_k».proof.Proof.Column
public import Idealize.ShloMosaic.Lib.Pointwise.Reduce
public import Idealize.ShloMosaic.Lib.IdealHost

@[expose] public section

set_option maxRecDepth 16384

noncomputable section

namespace Cert.Sort

open Idealize.ShloMosaic Cert.KernelIdeal Cert.KernelIdeal.Gen

/-- The padding is 2^18. -/
theorem ofBits_padding : Ideal.ofBits .f32 0x48800000#32 = ((262144 : ℝ) : EReal) := by
  simp [Ideal.ofBits, Ideal.ieee, -EReal.coe_mul]; norm_num

/-- The printed factor is minus a quarter. -/
theorem ofBits_quarter : Ideal.ofBits .f32 0xBE800000#32 = ((-(1 / 4) : ℝ) : EReal) := by
  simp [Ideal.ofBits, Ideal.ieee, -EReal.coe_mul, -EReal.coe_neg]; norm_num

/-- The row of the block that sublane `s` and lane `l` hold. -/
def blockRow (v0 : Vec Ideal S1024x200 .i32) (s : Fin 8) (l : Fin 128) (k : Fin 200) : BitVec 32 :=
  v0 (ix2 ⟨s.val * 128 + l.val, by omega⟩ k)

/-- The rows turned into columns. -/
def turned (v0 : Vec Ideal S1024x200 .i32) : FVec Ideal S200x8x128 .f32 :=
  sitofp .f32 (transpose S200x8x128 [2, 0, 1] (shapeCast S8x128x200 v0 shapeCasts_S1024x200_S8x128x200)
    transposes_S8x128x200_p2_0_1_S200x8x128)

/-- Entry `k` of the column at sublane `s` and lane `l` is entry `k` of the row they hold. -/
theorem turned_apply (v0 : Vec Ideal S1024x200 .i32) (k : Fin 200) (s : Fin 8) (l : Fin 128) :
    turned v0 (ix3 k s l) = (((blockRow v0 s l k).toInt : ℝ) : EReal) := by
  have e1 : transpose S200x8x128 [2, 0, 1] (shapeCast S8x128x200 v0 shapeCasts_S1024x200_S8x128x200)
      transposes_S8x128x200_p2_0_1_S200x8x128 (ix3 k s l)
      = shapeCast S8x128x200 v0 shapeCasts_S1024x200_S8x128x200 (ix3 s l k) :=
    transpose_apply _ _ _ _ _ fun b => match b with
      | ⟨0, _⟩ => rfl
      | ⟨1, _⟩ => rfl
      | ⟨2, _⟩ => rfl
  have e2 : shapeCast S8x128x200 v0 shapeCasts_S1024x200_S8x128x200 (ix3 s l k) = blockRow v0 s l k := by
    refine shapeCast_apply _ _ _ _ ?_
    rw [Shape.rowMajor_val_two, Shape.rowMajor_val_three]
    rfl
  show FloatOps.sitofp (F := Ideal) .f32 _ = _
  rw [e1, e2]
  rfl

/-- The block that the sort starts from, in terms of the rows turned into columns. -/
theorem prep_eq (v0 : Vec Ideal S1024x200 .i32) : prep v0 = shapeCast S2048x128 (concatenate S256x8x128 0
    [⟨S200x8x128, turned v0⟩, ⟨S56x8x128, broadcast S56x8x128 (Scalar.ofBits .f32 0x48800000#32)⟩]
    concatenates_S200x8x128_S56x8x128_S256x8x128_d0) shapeCasts_S256x8x128_S2048x128 := rfl

/-- The block that the sort starts from holds each row's column. -/
theorem prep_rep (v0 : Vec Ideal S1024x200 .i32) (s : Fin 8) (l : Fin 128) :
    RepM s.val l.val (prep v0) (column (blockRow v0 s l)) := by
  intro b c hb hc
  have hb2 := b.isLt
  obtain rfl : c = l := Fin.ext hc
  rw [prep_eq]
  generalize hy : concatenate S256x8x128 0
    [⟨S200x8x128, turned v0⟩, ⟨S56x8x128, broadcast S56x8x128 (Scalar.ofBits .f32 0x48800000#32)⟩]
    concatenates_S200x8x128_S56x8x128_S256x8x128_d0 = y
  have e1 : shapeCast S2048x128 y shapeCasts_S256x8x128_S2048x128 (ix2 b c) = y (ix3 ⟨b.val / 8, by omega⟩ s c) := by
    refine shapeCast_apply _ _ _ _ ?_
    rw [Shape.rowMajor_val_two, Shape.rowMajor_val_three]
    show (b.val / 8 * 8 + s.val) * 128 + c.val = b.val * 128 + c.val
    omega
  rw [e1, ← hy]
  by_cases h : b.val / 8 < 200
  · rw [column_lt _ ⟨b.val / 8, h⟩, ← turned_apply]
    exact concatenate_apply_piece (t := S256x8x128) 0 _ _ _ 0 (by show 0 < 2; omega) _ (turned v0) rfl rfl 0 rfl _
      (fun k hk => match k, hk with | ⟨0, _⟩, hk => absurd rfl hk | ⟨1, _⟩, _ => rfl | ⟨2, _⟩, _ => rfl) (Nat.zero_add _)
  · rw [column_ge _ _ h, ← ofBits_padding]
    exact concatenate_apply_piece (t := S256x8x128) 0 _ _ _ 1 (by show 1 < 2; omega) S56x8x128
      (broadcast S56x8x128 (Scalar.ofBits .f32 0x48800000#32)) rfl rfl 200 rfl
      (ix3 ⟨b.val / 8 - 200, by omega⟩ s c)
      (fun k hk => match k, hk with | ⟨0, _⟩, hk => absurd rfl hk | ⟨1, _⟩, _ => rfl | ⟨2, _⟩, _ => rfl)
      (by show 200 + (b.val / 8 - 200) = b.val / 8; omega)

/-- Where the printed comparison of two entries counts. -/
theorem flag_eq (x y : EReal) :
    (FloatOps.sitofp .f32 (BitVec.zeroExtend 32 (Ideal.cmp .one x y)) : Ideal .f32)
      = (((if x ≠ y then 1 else 0 : ℝ)) : EReal) := by
  by_cases h : x = y
  · have e : Ideal.cmp .one x y = 0#1 := by unfold Ideal.cmp; simp [h]
    rw [e, if_neg (not_not.mpr h)]
    show (((BitVec.zeroExtend 32 0#1).toInt : ℝ) : EReal) = _
    rw [show (BitVec.zeroExtend 32 0#1).toInt = 0 by decide, Int.cast_zero]
  · have e : Ideal.cmp .one x y = 1#1 := by unfold Ideal.cmp; simp [h]
    rw [e, if_pos h]
    show (((BitVec.zeroExtend 32 1#1).toInt : ℝ) : EReal) = _
    rw [show (BitVec.zeroExtend 32 1#1).toInt = 1 by decide, Int.cast_one]

/-- The count of the changes of a column among its first 200 entries. -/
theorem count_apply (x : FVec Ideal M .f32) (X : ℕ → EReal) (s : Fin 8) (l : Fin 128) (hx : RepM s.val l.val x X) :
    count x (ix2 s l) = ((-(1 / 4) : ℝ) : EReal)
      * (1 + ∑ k : Fin 199, (((if X (k.val + 1) ≠ X k.val then 1 else 0 : ℝ)) : EReal)) := by
  have hx3 : ∀ k : Fin 256, shapeCast S256x8x128 x shapeCasts_S2048x128_S256x8x128 (ix3 k s l) = X k.val := fun k => by
    have e : shapeCast S256x8x128 x shapeCasts_S2048x128_S256x8x128 (ix3 k s l)
        = x (ix2 (⟨k.val * 8 + s.val, by omega⟩ : Fin 2048) l) := by
      refine shapeCast_apply _ _ _ _ ?_
      rw [Shape.rowMajor_val_two, Shape.rowMajor_val_three]
      rfl
    rw [e, hx _ _ (by show (k.val * 8 + s.val) % 8 = s.val; omega) rfl]
    congr 1
    show (k.val * 8 + s.val) / 8 = k.val
    omega
  unfold count
  dsimp only
  generalize shapeCast S256x8x128 x shapeCasts_S2048x128_S256x8x128 = y at hx3 ⊢
  show (Ideal.ofBits .f32 0xBE800000#32) * (Ideal.ofBits .f32 0x3F800000#32 + multiReduction .add [0] S8x128 _ _ _ _ _ (ix2 s l)) = _
  rw [ofBits_quarter, Ideal.ofBits_one_f32]
  refine congrArg (fun z : EReal => ((-(1 / 4) : ℝ) : EReal) * (1 + z)) ?_
  refine (Ideal.reduceAdd_r3_a0 reduces_S199x8x128_S8x128 _ _).trans ?_
  refine Finset.sum_congr rfl fun k _ => ?_
  have e1 : extractStridedSlice S199x8x128 ![1, 0, 0] y slices_S256x8x128_o1_0_0_S199x8x128 (ix3 k s l)
      = y (ix3 ⟨k.val + 1, by omega⟩ s l) :=
    extractStridedSlice_apply _ _ _ _ _ fun a => match a with
      | ⟨0, _⟩ => Nat.add_comm _ _
      | ⟨1, _⟩ => (Nat.zero_add _).symm
      | ⟨2, _⟩ => (Nat.zero_add _).symm
  have e0 : extractStridedSlice S199x8x128 ![0, 0, 0] y slices_S256x8x128_o0_0_0_S199x8x128 (ix3 k s l)
      = y (ix3 ⟨k.val, by omega⟩ s l) :=
    extractStridedSlice_apply _ _ _ _ _ fun a => match a with
      | ⟨0, _⟩ => (Nat.zero_add _).symm
      | ⟨1, _⟩ => (Nat.zero_add _).symm
      | ⟨2, _⟩ => (Nat.zero_add _).symm
  rw [hx3] at e1 e0
  rw [← flag_eq, ← e1, ← e0]
  rfl

/-- Along the sorted column two neighbours among the numbers differ just where the sorted row's do. -/
theorem change_iff (r : Fin 200 → BitVec 32) (hr : ∀ k, (r k).toInt < 100000) (p q : Fin 200) :
    runSteps steps (column r) p.val ≠ runSteps steps (column r) q.val ↔ sortedRow r p ≠ sortedRow r q := by
  have hp : runSteps steps (column r) p.val = column (sortedRow r) p.val := steps_column r hr ⟨p.val, by omega⟩
  have hq : runSteps steps (column r) q.val = column (sortedRow r) q.val := steps_column r hr ⟨q.val, by omega⟩
  rw [hp, hq]
  exact column_ne (sortedRow r) p q

/-- The number of runs of a row, as its sorted column shows it. -/
theorem coe_runs (r : Fin 200 → BitVec 32) (hr : ∀ k, (r k).toInt < 100000) (X : ℕ → EReal)
    (hX : X = runSteps steps (column r)) :
    1 + ∑ k : Fin 199, (((if X (k.val + 1) ≠ X k.val then 1 else 0 : ℝ)) : EReal) = (runs r : EReal) := by
  unfold runs
  rw [EReal.coe_add, EReal.coe_one, coe_sum]
  refine congrArg (fun z : EReal => 1 + z) (Finset.sum_congr rfl fun k _ => congrArg _ (if_congr ?_ rfl rfl))
  rw [hX]
  exact change_iff r hr ⟨k.val + 1, by omega⟩ ⟨k.val, by omega⟩

/-- A block's contribution at sublane `s` and lane `l` is minus a quarter of the number of runs of that row. -/
theorem blockVal_apply (v0 : Vec Ideal S1024x200 .i32) (s : Fin 8) (l : Fin 128)
    (hr : ∀ k, (blockRow v0 s l k).toInt < 100000) :
    blockVal v0 (ix2 s l) = ((-(1 / 4) * runs (blockRow v0 s l) : ℝ) : EReal) := by
  have h := count_apply _ _ s l (sortM_rep _ _ (prep_rep v0 s l))
  rw [coe_runs _ hr _ rfl, ← EReal.coe_mul] at h
  exact h

end Cert.Sort
-- ==== Proof.Accumulate.lean ====
/- What the output's block holds after each grid point, and where the blocks lie in the arrays. Grid point `4 b + v` loads rows
   of view `v` and adds their contributions to block `b` of the result, which therefore sums the views one by one. -/
module

public import proofs.«01_k».proof.Proof.Body
public import proofs.«01_k».proof.Proof.Block

@[expose] public section

set_option maxRecDepth 16384

noncomputable section

namespace Cert.Sort

open Idealize.ShloMosaic Idealize.ShloMosaic.TcCoe Cert.KernelIdeal Cert.KernelIdeal.Gen
open Idealize.ShloMosaic.Pipeline (Dat)

/-- Row `j` of view `v`: each view has 16384 rows. -/
def viewRow (x : IVec S65536x200 32) (v j : ℕ) (k : Fin 200) : BitVec 32 :=
  x (ix2 ⟨(v * 16384 + j) % 65536, Nat.mod_lt _ (by decide)⟩ k)

/-- The contribution of row `j` of view `v`. -/
def term (x : IVec S65536x200 32) (v j : ℕ) : EReal := ((-(1 / 4) * runs (viewRow x v j) : ℝ) : EReal)

/-- The contributions of row `j` of the views up to `v`, added in order. -/
def upto (x : IVec S65536x200 32) (j : ℕ) : ℕ → EReal
  | 0 => term x 0 j
  | v + 1 => upto x j v + term x (v + 1) j

variable (m : (ℓ : Loc nD τ sig) → Buf (Elt Ideal) ℓ)

/-- The argument array. -/
abbrev arg (c : Dev nD) : IVec S65536x200 32 := m ((c : Thread nD τ).loc main_arg0)

/-- Grid point `4 b + v` loads the block of rows `16 v + b`. -/
theorem index0_0 (t : Fin cfg0.N) : win0_0.index t 0 = t.val % 4 * 16 + t.val / 4 :=
  (by decide +kernel : ∀ t : Fin grid0.N, win0_0.index t 0 = t.val % 4 * 16 + t.val / 4) t

/-- A block of rows has all the columns. -/
theorem index0_1 (t : Fin cfg0.N) : win0_0.index t 1 = 0 :=
  (by decide +kernel : ∀ t : Fin grid0.N, win0_0.index t 1 = 0) t

/-- The rows loaded at a grid point are rows of the argument. -/
theorem iblk_row (c : Dev nD) (t : Fin cfg0.N) (s : Fin 8) (l : Fin 128) :
    blockRow (iblk m c 0 t) s l = viewRow (arg m c) (t.val % 4) (t.val / 4 * 1024 + s.val * 128 + l.val) := by
  have ht : t.val < 64 := Nat.lt_of_lt_of_eq t.isLt N_0
  funext k
  unfold blockRow viewRow iblk
  rw [View.read_apply]
  show Gen.V m c main_arg0 _ = m (c.tc.loc main_arg0) _
  unfold Gen.V
  show m (c.tc.loc main_arg0) _ = m (c.tc.loc main_arg0) _
  congr 1
  funext a
  apply Fin.ext
  match a with
  | ⟨0, _⟩ =>
    show win0_0.index t 0 * 1024 + 1 * (s.val * 128 + l.val)
      = (t.val % 4 * 16384 + (t.val / 4 * 1024 + s.val * 128 + l.val)) % 65536
    rw [index0_0]
    omega
  | ⟨1, _⟩ =>
    show win0_0.index t 1 * 200 + 1 * k.val = k.val
    rw [index0_1]
    omega

/-- The contribution of the block loaded at a grid point. -/
theorem point_term (c : Dev nD) (hx : ∀ i, (arg m c i).toInt < 100000) (t : Fin cfg0.N) (s : Fin 8) (l : Fin 128) :
    blockVal (iblk m c 0 t) (ix2 s l) = term (arg m c) (t.val % 4) (t.val / 4 * 1024 + s.val * 128 + l.val) := by
  have e := iblk_row m c t s l
  have h := blockVal_apply (iblk m c 0 t) s l (by rw [e]; exact fun k => hx _)
  rw [h, e]
  rfl

/-- After each grid point the output's block holds the contributions of the views so far. -/
theorem outsAt_apply (c : Dev nD) (hx : ∀ i, (arg m c i).toInt < 100000) (s : Fin 8) (l : Fin 128) :
    ∀ (n : ℕ) (hn : n < cfg0.N), outsAt0 m c n hn (ix3 0 s l)
      = upto (arg m c) (n / 4 * 1024 + s.val * 128 + l.val) (n % 4) := by
  intro n
  induction n with
  | zero =>
    intro hn
    have e := outsAt0_A m c ⟨0, hn⟩ rfl (by show ¬1 ≤ 0 % 4; omega)
    rw [out_A] at e
    refine (congrFun e _).trans ?_
    refine (shapeCast_addUnit_apply _ _ _ _).trans ?_
    exact (congrArg _ (funext fun a => by match a with | ⟨0, _⟩ => rfl | ⟨1, _⟩ => rfl)).trans (point_term m c hx ⟨0, hn⟩ s l)
  | succ n ih =>
    intro hn
    by_cases h0 : (n + 1) % 4 = 0
    · have e := outsAt0_A m c ⟨n + 1, hn⟩ h0 (by show ¬1 ≤ (n + 1) % 4; omega)
      rw [out_A] at e
      refine (congrFun e _).trans ?_
      refine (shapeCast_addUnit_apply _ _ _ _).trans ?_
      refine (congrArg _ (funext fun a => by match a with | ⟨0, _⟩ => rfl | ⟨1, _⟩ => rfl)).trans
        ((point_term m c hx ⟨n + 1, hn⟩ s l).trans ?_)
      show term _ ((n + 1) % 4) _ = _
      rw [h0]
      rfl
    · have e := outsAt0_B m c ⟨n + 1, hn⟩ h0 (by show 1 ≤ (n + 1) % 4; omega)
      rw [out_B] at e
      refine (congrFun e _).trans ?_
      refine (shapeCast_addUnit_apply _ _ _ _).trans ?_
      have e1 : (n + 1) % 4 = n % 4 + 1 := by omega
      have e2 : (n + 1) / 4 = n / 4 := by omega
      have hp := point_term m c hx ⟨n + 1, hn⟩ s l
      simp only [e1, e2] at hp
      have hi := ih (Nat.lt_of_succ_lt hn)
      rw [e1, e2]
      show _ + _ = upto _ _ (n % 4) + term _ (n % 4 + 1) _
      rw [← hi, ← hp]
      congr 1
      · refine (shapeCast_dropUnit_apply _ _ _ _).trans ?_
        exact congrArg _ (funext fun a => by match a with | ⟨0, _⟩ => rfl | ⟨1, _⟩ => rfl | ⟨2, _⟩ => rfl)
      · exact congrArg _ (funext fun a => by match a with | ⟨0, _⟩ => rfl | ⟨1, _⟩ => rfl)

end Cert.Sort
-- ==== Proof.Kernel.lean ====
/- The kernel's run: what its result array holds in the end, each row's contributions of the four views added in order. -/
module

public import proofs.«01_k».proof.Proof.Accumulate
public import Idealize.ShloMosaic.Lib.Pipeline.ValueKit.Geometry

@[expose] public section

set_option maxRecDepth 16384

noncomputable section

namespace Cert.Sort

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- Grid point `4 b + v` writes block `b` of the result. -/
theorem index1_0 (t : Fin cfg0.N) : win0_1.index t 0 = t.val / 4 :=
  (by decide +kernel : ∀ t : Fin grid0.N, win0_1.index t 0 = t.val / 4) t

/-- A block of the result has all the sublanes. -/
theorem index1_1 (t : Fin cfg0.N) : win0_1.index t 1 = 0 :=
  (by decide +kernel : ∀ t : Fin grid0.N, win0_1.index t 1 = 0) t

/-- A block of the result has all the lanes. -/
theorem index1_2 (t : Fin cfg0.N) : win0_1.index t 2 = 0 :=
  (by decide +kernel : ∀ t : Fin grid0.N, win0_1.index t 2 = 0) t

/-- The blocks' array at the end: block `b`, sublane `s`, lane `l` is row `1024 b + 128 s + l`. -/
def blocks (x : IVec S65536x200 32) : FVec Ideal S16x8x128 .f32 :=
  fun i => upto x ((i 0).val * 1024 + (i 1).val * 128 + (i 2).val) 3

/-- The result: row by row. -/
def rows (x : IVec S65536x200 32) : FVec Ideal S16384 .f32 := fun i => upto x (i 0).val 3

/-- The blocks' array at the end of the run: each block is last written back at its last view. -/
theorem final_blocks (c : Dev nD) (hx : ∀ i, (arg m c i).toInt < 100000) :
    (dats m 0 c).arrAt 1 cfg0.N = blocks (arg m c) := by
  refine (dats m 0 c).arrAt_eq_of_covers 1 (blocks (arg m c)) (by decide +kernel) fun t hf y => ?_
  have ht : t.val < 64 := Nat.lt_of_lt_of_eq t.isLt N_0
  have h3 : t.val % 4 = 3 := (flush0_1 t).mp hf
  have h0 : (y 0).val < 1 := (y 0).isLt
  have h1 : (y 1).val < 8 := (y 1).isLt
  have h2 : (y 2).val < 128 := (y 2).isLt
  rw [after0_1]
  have e := outsAt_apply m c hx ⟨(y 1).val, h1⟩ ⟨(y 2).val, h2⟩ t.val t.isLt
  rw [h3] at e
  have hy : (cfg0.win 1).xinj (cfg0.grid.coords t) y = ix3 (0 : Fin 1) (⟨(y 1).val, h1⟩ : Fin 8) (⟨(y 2).val, h2⟩ : Fin 128) := by
    funext a
    apply Fin.ext
    match a with
    | ⟨0, _⟩ => show (y 0).val = 0; omega
    | ⟨1, _⟩ => rfl
    | ⟨2, _⟩ => rfl
  rw [hy]
  refine Eq.trans ?_ (e.trans ?_)
  · rfl
  · have e0 : ((((cfg0.win 1).blk t).view.emb y) 0).val = t.val / 4 := by
      show win0_1.index t 0 * 1 + 1 * (y 0).val = _
      rw [index1_0]; omega
    have e1 : ((((cfg0.win 1).blk t).view.emb y) 1).val = (y 1).val := by
      show win0_1.index t 1 * 8 + 1 * (y 1).val = _
      rw [index1_1]; omega
    have e2 : ((((cfg0.win 1).blk t).view.emb y) 2).val = (y 2).val := by
      show win0_1.index t 2 * 128 + 1 * (y 2).val = _
      rw [index1_2]; omega
    show _ = upto _ (((((cfg0.win 1).blk t).view.emb y) 0).val * 1024 + ((((cfg0.win 1).blk t).view.emb y) 1).val * 128
      + ((((cfg0.win 1).blk t).view.emb y) 2).val) 3
    rw [e0, e1, e2]

/-- The reshape after the region lays the blocks out row by row. -/
theorem reshape_blocks (x : IVec S65536x200 32) : shapeCast S16384 (blocks x) shapeCasts_S16x8x128_S16384 = rows x := by
  funext i
  have hi : (i 0).val < 16384 := (i 0).isLt
  have e : shapeCast S16384 (blocks x) shapeCasts_S16x8x128_S16384 i
      = blocks x (ix3 (⟨(i 0).val / 1024, by omega⟩ : Fin 16) (⟨(i 0).val / 128 % 8, by omega⟩ : Fin 8)
          (⟨(i 0).val % 128, by omega⟩ : Fin 128)) := by
    refine shapeCast_apply _ _ _ _ ?_
    rw [Shape.rowMajor_val_one, Shape.rowMajor_val_three]
    show ((i 0).val / 1024 * 8 + (i 0).val / 128 % 8) * 128 + (i 0).val % 128 = (i 0).val
    omega
  rw [e]
  show upto x ((i 0).val / 1024 * 1024 + (i 0).val / 128 % 8 * 128 + (i 0).val % 128) 3 = upto x (i 0).val 3
  congr 1
  omega

/-- The result after the region: the blocks' array, row by row. -/
theorem tail_eq (c : Dev nD) (hx : ∀ i, (arg m c i).toInt < 100000) :
    Pipeline.afterTail₀ cfgs (dats m) 0 (V0 m) [hostOps1] c main_v1 = rows (arg m c) := by
  rw [← reshape_blocks, ← final_blocks m c hx]
  unfold Pipeline.afterTail₀
  simp only [hostOps1, List.flatten_cons, List.flatten_nil, List.append_nil, StableHlo.after_cons, StableHlo.after_nil]
  refine (StableHlo.reshape_result main_v0 main_v1 _ _ _ _ _).trans ?_
  exact congrArg (fun v => shapeCast S16384 v shapeCasts_S16x8x128_S16384)
    (Pipeline.withArrays_arr spec0 (by decide) c (V0 m c) (fun w => (dats m 0 c).arrAt w cfg0.N) 1)

/-- The kernel runs, its result holds each row's contributions added up, and its arguments are as they were. -/
theorem run_kernel (hx : ∀ c i, (arg m c i).toInt < 100000) :
    θ_run defs (onTc (τ := τ) (main (F := Ideal))) ⟨m, fun _ => 0, ρ⟩ fun r => ∀ c : Dev nD,
      r.2.mem ((c : Thread nD τ).loc main_v1) = rows (arg m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v1 (Pipeline.mem_restRefs_of main_v1 (by decide) (by decide))).trans (tail_eq m c (hx c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.Sort
-- ==== Proof.Reference.lean ====
/- What the reference computes, row by row: the mean over the four views of minus the number of runs of each row. -/
module

public import proofs.«01_k».proof.Proof.Column
public import proofs.«01_k».proof.Proof.Gen.ReferenceIdeal.Read
public import Idealize.ShloMosaic.Lib.Pointwise.Index
public import Idealize.ShloMosaic.Lib.IdealHost

@[expose] public section

set_option maxRecDepth 16384

noncomputable section

namespace Cert.Sort

open Idealize.ShloMosaic Cert.ReferenceIdeal Cert.ReferenceIdeal.Gen Cert.ReferenceIdeal.Read

/-- The printed factor is minus one. -/
theorem ofBits_minus_one : Ideal.ofBits .f32 0xBF800000#32 = ((-1 : ℝ) : EReal) := by
  simp [Ideal.ofBits, Ideal.ieee, -EReal.coe_mul, -EReal.coe_neg]; norm_num

/-- The number of views. -/
theorem ofBits_four : Ideal.ofBits .f32 0x40800000#32 = ((4 : ℝ) : EReal) := by
  simp [Ideal.ofBits, Ideal.ieee, -EReal.coe_mul]; norm_num

/-- The sums start from zero. -/
theorem ofBits_plain_zero : Ideal.ofBits .f32 0x00000000#32 = 0 := by simp [Ideal.ofBits, Ideal.ieee]

/-- Row `j` of the argument. -/
def argRow (x : IVec S65536x200 32) (j : Fin 65536) (k : Fin 200) : BitVec 32 := x (ix2 j k)

/-- The host's sort puts each row in order. -/
theorem sorted_apply (x : IVec S65536x200 32) (j : Fin 65536) (k : Fin 200) :
    val_main_v0 (F := Ideal) x (ix2 j k) = sortedRow (argRow x j) k := by
  have e : ∀ q : Fin 200, (ix2 j k : S65536x200.Idx).along (1 : Fin 2) q = ix2 j q := fun q => by
    funext a
    match a with
    | ⟨0, _⟩ => rfl
    | ⟨1, _⟩ => rfl
  unfold val_main_v0 Host.sort sortedRow argRow source
  rw [dif_pos (show 1 < S65536x200.rank by decide)]
  show x ((ix2 j k : S65536x200.Idx).along (1 : Fin 2) (sortedFrom (n := 200) (fun p q => comparator_i32_d1
      (x ((ix2 j k : S65536x200.Idx).along (1 : Fin 2) p)) (x ((ix2 j k : S65536x200.Idx).along (1 : Fin 2) q)) == 1#1) k))
    = x (ix2 j (sortedFrom (fun p q => comparator_i32_d1 (x (ix2 j p)) (x (ix2 j q)) == 1#1) k))
  simp only [e]

/-- Where the reference counts a change. -/
theorem change_eq (a b : BitVec 32) :
    (FloatOps.uitofp .f32 (IntOp.cmpi .ne a b) : Ideal .f32) = ((if a ≠ b then 1 else 0 : ℝ) : EReal) := by
  by_cases h : a = b
  · have e : IntOp.cmpi .ne a b = 0#1 := by unfold IntOp.cmpi; simp [h]
    rw [e, if_neg (not_not.mpr h)]
    show (((0#1).toNat : ℝ) : EReal) = _
    rw [show (0#1).toNat = 0 by decide, Nat.cast_zero]
  · have e : IntOp.cmpi .ne a b = 1#1 := IntOp.cmpi_ne.mpr h
    rw [e, if_pos h]
    show (((1#1).toNat : ℝ) : EReal) = _
    rw [show (1#1).toNat = 1 by decide, Nat.cast_one]

/-- The reference's value of row `j`: minus the number of its runs. -/
theorem minus_runs (x : IVec S65536x200 32) (j : Fin 65536) :
    val_main_v9 (F := Ideal) x (ix1 j) = ((-1 * runs (argRow x j) : ℝ) : EReal) := by
  have e1 : ∀ k : Fin 199, val_main_v4 (F := Ideal) x (idx_main_v5 (ix1 j) k)
      = ((if sortedRow (argRow x j) ⟨k.val + 1, by omega⟩ ≠ sortedRow (argRow x j) ⟨k.val, by omega⟩ then 1 else 0 : ℝ) : EReal) :=
    fun k => by
      rw [val_main_v4_apply, val_main_v3_apply, val_main_v1_apply, val_main_v2_apply, ← sorted_apply, ← sorted_apply,
        change_eq]
      have i1 : idx_main_v1 (idx_main_v5 (ix1 j) k) = ix2 j (⟨k.val + 1, by omega⟩ : Fin 200) := by
        funext a
        apply Fin.ext
        match a with
        | ⟨0, _⟩ => rfl
        | ⟨1, _⟩ => exact Nat.add_comm _ _
      have i0 : idx_main_v2 (idx_main_v5 (ix1 j) k) = ix2 j (⟨k.val, by omega⟩ : Fin 200) := by
        funext a
        apply Fin.ext
        match a with
        | ⟨0, _⟩ => rfl
        | ⟨1, _⟩ => rfl
      rw [i1, i0]
  rw [val_main_v9_apply, val_main_v8_apply, val_main_cst_1_apply, val_main_v7_apply, val_main_v6_apply,
    val_main_cst_0_apply, val_main_v5_apply, val_main_cst_apply]
  show Ideal.ofBits .f32 0xBF800000#32 * (Ideal.ofBits .f32 0x3F800000#32 + (Ideal.ofBits .f32 0x00000000#32 + _)) = _
  rw [ofBits_minus_one, Ideal.ofBits_one_f32, ofBits_plain_zero, zero_add, Finset.sum_congr rfl fun k _ => e1 k,
    ← coe_sum, ← EReal.coe_one, ← EReal.coe_add, ← EReal.coe_mul]
  rfl

/-- The reference's result at row `i`: the mean over the four views. -/
theorem reference_apply (x : IVec S65536x200 32) (i : Fin 16384) :
    val_main_v13 (F := Ideal) x (ix1 i)
      = (((∑ v : Fin 4, -1 * runs (argRow x ⟨v.val * 16384 + i.val, by omega⟩)) / 4 : ℝ) : EReal) := by
  have e : ∀ v : Fin 4, val_main_v10 (F := Ideal) x (idx_main_v11 (ix1 i) v)
      = ((-1 * runs (argRow x ⟨v.val * 16384 + i.val, by omega⟩) : ℝ) : EReal) := fun v => by
    rw [val_main_v10_apply, ← minus_runs]
    congr 1
    funext a
    match a with
    | ⟨0, _⟩ => rfl
  rw [val_main_v13_apply, val_main_v11_apply, val_main_cst_2_apply, val_main_v12_apply, val_main_cst_3_apply]
  show Ideal.div (Ideal.ofBits .f32 0x00000000#32 + _) (Ideal.ofBits .f32 0x40800000#32) = _
  rw [ofBits_plain_zero, zero_add, ofBits_four, Finset.sum_congr rfl fun v _ => e v, ← coe_sum,
    Ideal.div_coe (by norm_num), ← EReal.coe_mul, mul_one_div]

end Cert.Sort
-- ==== Proof.Equation.lean ====
/- The kernel's result and the reference's are the same numbers: a sum of quarters is a quarter of the sum. -/
module

public import proofs.«01_k».proof.Proof.Kernel
public import proofs.«01_k».proof.Proof.Reference

@[expose] public section

set_option maxRecDepth 16384

noncomputable section

namespace Cert.Sort

open Idealize.ShloMosaic

/-- A view's row is a row of the argument. -/
theorem viewRow_eq (x : IVec Cert.KernelIdeal.S65536x200 32) (v : Fin 4) (i : Fin 16384) :
    viewRow x v.val i.val = argRow x ⟨v.val * 16384 + i.val, by omega⟩ := by
  have e : (v.val * 16384 + i.val) % 65536 = v.val * 16384 + i.val := by omega
  unfold viewRow argRow
  simp only [e]

/-- Adding a quarter of each view's value is taking the mean of the four. -/
theorem rows_apply (x : IVec Cert.KernelIdeal.S65536x200 32) (i : Fin 16384) :
    rows x (ix1 i) = (((∑ v : Fin 4, -1 * runs (argRow x ⟨v.val * 16384 + i.val, by omega⟩)) / 4 : ℝ) : EReal) := by
  have h : rows x (ix1 i) = ((term x 0 i.val + term x 1 i.val) + term x 2 i.val) + term x 3 i.val := rfl
  have e0 := viewRow_eq x 0 i
  have e1 := viewRow_eq x 1 i
  have e2 := viewRow_eq x 2 i
  have e3 := viewRow_eq x 3 i
  rw [h, Fin.sum_univ_four, ← e0, ← e1, ← e2, ← e3]
  unfold term
  rw [← EReal.coe_add, ← EReal.coe_add, ← EReal.coe_add]
  congr 1
  show -(1 / 4) * runs (viewRow x 0 i.val) + -(1 / 4) * runs (viewRow x 1 i.val) + -(1 / 4) * runs (viewRow x 2 i.val)
      + -(1 / 4) * runs (viewRow x 3 i.val)
    = (-1 * runs (viewRow x 0 i.val) + -1 * runs (viewRow x 1 i.val) + -1 * runs (viewRow x 2 i.val)
      + -1 * runs (viewRow x 3 i.val)) / 4
  ring

/-- The two results are equal. -/
theorem rows_eq (x : IVec Cert.KernelIdeal.S65536x200 32) :
    rows x = Cert.ReferenceIdeal.Read.val_main_v13 (F := Ideal) x := by
  funext i
  rw [eq_ix1 i]
  exact (rows_apply x (i 0)).trans (reference_apply x (i 0)).symm

end Cert.Sort
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_vocab
public import proofs.«01_k».proof.Proof.Gen.ReferenceIdeal.Run
public import proofs.«01_k».proof.Proof.Gen.ReferenceIdeal.Read
public import proofs.«01_k».proof.Proof.Equation
public import Idealize.ShloMosaic.Lib.ReduceAll
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- A rank-zero shape has one index. -/
instance : Subsingleton Cert.Pre_in_vocab.S_.Idx := ⟨fun _ _ => funext fun a => a.elim0⟩

/-- What the precondition says of each number of the argument. -/
theorem below (x : IVec Cert.Pre_in_vocab.S65536x200 32) (y : FVec Ideal Cert.Pre_in_vocab.S65536x128 .f32)
    (h : @Cert.Pre_in_vocab.fn Cert.Pre_in_vocab.Gen.facts Ideal _ x y = fun _ => 1#1) (i : Cert.Pre_in_vocab.S65536x200.Idx) :
    (x i).toInt < 100000 := by
  have h1 := Host.reduce_andi_all _ _ _ _ (Shape.Idx.first Cert.Pre_in_vocab.Gen.facts.h_S_) (congrFun h _) i
  exact IntOp.cmpi_slt.mp (IntOp.andi_eq_one.mp h1).2

/-- The reference runs and leaves its arguments and the counters alone. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c : Thread Cert.ReferenceIdeal.nD Cert.ReferenceIdeal.τ).loc Cert.ReferenceIdeal.main_arg0)
        = m ((c : Thread Cert.ReferenceIdeal.nD Cert.ReferenceIdeal.τ).loc Cert.ReferenceIdeal.main_arg0)
      ∧ r.2.mem ((c : Thread Cert.ReferenceIdeal.nD Cert.ReferenceIdeal.τ).loc Cert.ReferenceIdeal.main_arg1)
        = m ((c : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- Every claim of the certificate. -/
theorem claim : Cert.Claim :=
  ⟨Cert.Kernel.Gen.facts, Cert.KernelIdeal.Gen.facts, Cert.ReferenceIdeal.Gen.facts, Cert.Pre_in_vocab.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    fun m g m' g' hpre hargs => by
      refine ⟨fun c => Cert.Sort.rows (Cert.Sort.arg m c),
        Cert.Sort.run_kernel m g fun c i => below _ _ (hpre c) i, ?_⟩
      refine (θ_run Cert.ReferenceIdeal.defs _ _).mono (fun r h c => ?_) (Cert.ReferenceIdeal.Value.run m' g')
      refine ⟨(h c).1.trans ((Cert.ReferenceIdeal.Read.val_main_v13_eq _).trans ?_), (h c).2⟩
      exact (congrArg (Cert.ReferenceIdeal.Read.val_main_v13 (F := Ideal)) (hargs c).1).trans
        (Cert.Sort.rows_eq (Cert.Sort.arg m c)).symm⟩

end Cert.Proof

end
